-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x4096 : Shape := ⟨3, ![3, 8192, 4096]⟩
abbrev S4096 : Shape := ⟨1, ![4096]⟩
abbrev S4096x768 : Shape := ⟨2, ![4096, 768]⟩
abbrev S768 : Shape := ⟨1, ![768]⟩
abbrev S3x8192 : Shape := ⟨2, ![3, 8192]⟩
abbrev S24576x4096 : Shape := ⟨2, ![24576, 4096]⟩
abbrev S1x4096 : Shape := ⟨2, ![1, 4096]⟩
abbrev S1x768 : Shape := ⟨2, ![1, 768]⟩
abbrev S24576x1 : Shape := ⟨2, ![24576, 1]⟩
abbrev S24576x512 : Shape := ⟨2, ![24576, 512]⟩
abbrev S24576x128 : Shape := ⟨2, ![24576, 128]⟩
abbrev S256x4096 : Shape := ⟨2, ![256, 4096]⟩
abbrev S256x1 : Shape := ⟨2, ![256, 1]⟩
abbrev S256x512 : Shape := ⟨2, ![256, 512]⟩
abbrev S256x128 : Shape := ⟨2, ![256, 128]⟩
abbrev S256 : Shape := ⟨1, ![256]⟩
abbrev S1x256 : Shape := ⟨2, ![1, 256]⟩
abbrev S256x256 : Shape := ⟨2, ![256, 256]⟩
abbrev S256x768 : Shape := ⟨2, ![256, 768]⟩
abbrev S1x128 : Shape := ⟨2, ![1, 128]⟩

abbrev nBuf : Space → Nat
  | .hbm => 14
  | .vmem => 17
  | .smem => 0
  | _ => 0

abbrev bufTy : (tb : Table) → Fin (tcTables nBuf tb) → BufTy
  | .hbm, ⟨0, _⟩ => ⟨S3x8192x4096, .bf16⟩
  | .hbm, ⟨1, _⟩ => ⟨S4096, .f32⟩
  | .hbm, ⟨2, _⟩ => ⟨S4096x768, .fp8e4m3⟩
  | .hbm, ⟨3, _⟩ => ⟨S768, .f32⟩
  | .hbm, ⟨4, _⟩ => ⟨S3x8192, .i32⟩
  | .hbm, ⟨5, _⟩ => ⟨S24576x4096, .bf16⟩
  | .hbm, ⟨6, _⟩ => ⟨S1x4096, .f32⟩
  | .hbm, ⟨7, _⟩ => ⟨S1x768, .f32⟩
  | .hbm, ⟨8, _⟩ => ⟨S24576x1, .i32⟩
  | .hbm, ⟨9, _⟩ => ⟨S24576x512, .bf16⟩
  | .hbm, ⟨10, _⟩ => ⟨S24576x128, .bf16⟩
  | .hbm, ⟨11, _⟩ => ⟨S24576x128, .bf16⟩
  | .hbm, ⟨12, _⟩ => ⟨S24576x4096, .fp8e4m3⟩
  | .hbm, ⟨13, _⟩ => ⟨S24576x1, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x768, .fp8e4m3⟩
  | .local _ .vmem, ⟨4, _⟩ => ⟨S1x768, .f32⟩
  | .local _ .vmem, ⟨5, _⟩ => ⟨S256x1, .i32⟩
  | .local _ .vmem, ⟨6, _⟩ => ⟨S256x1, .i32⟩
  | .local _ .vmem, ⟨7, _⟩ => ⟨S256x512, .bf16⟩
  | .local _ .vmem, ⟨8, _⟩ => ⟨S256x512, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x4096, .fp8e4m3⟩
  | .local _ .vmem, ⟨14, _⟩ => ⟨S256x4096, .fp8e4m3⟩
  | .local _ .vmem, ⟨15, _⟩ => ⟨S256x1, .f32⟩
  | .local _ .vmem, ⟨16, _⟩ => ⟨S256x1, .f32⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S3x8192x4096 : Shape := ⟨3, ![3, 8192, 4096]⟩
abbrev S4096 : Shape := ⟨1, ![4096]⟩
abbrev S4096x768 : Shape := ⟨2, ![4096, 768]⟩
abbrev S768 : Shape := ⟨1, ![768]⟩
abbrev S3x8192 : Shape := ⟨2, ![3, 8192]⟩
abbrev S24576x4096 : Shape := ⟨2, ![24576, 4096]⟩
abbrev S1x4096 : Shape := ⟨2, ![1, 4096]⟩
abbrev S1x768 : Shape := ⟨2, ![1, 768]⟩
abbrev S24576x1 : Shape := ⟨2, ![24576, 1]⟩
abbrev S24576x512 : Shape := ⟨2, ![24576, 512]⟩
abbrev S24576x128 : Shape := ⟨2, ![24576, 128]⟩
abbrev S24576 : Shape := ⟨1, ![24576]⟩
abbrev S1x253 : Shape := ⟨2, ![1, 253]⟩
abbrev S24576x253 : Shape := ⟨2, ![24576, 253]⟩
abbrev S24576x768 : Shape := ⟨2, ![24576, 768]⟩
abbrev S1x64 : Shape := ⟨2, ![1, 64]⟩
abbrev S24576x64 : Shape := ⟨2, ![24576, 64]⟩

abbrev nBuf : Space → Nat
  | .hbm => 14
  | .vmem => 10
  | .smem => 0
  | _ => 0

abbrev bufTy : (tb : Table) → Fin (tcTables nBuf tb) → BufTy
  | .hbm, ⟨0, _⟩ => ⟨S3x8192x4096, .bf16⟩
  | .hbm, ⟨1, _⟩ => ⟨S4096, .f32⟩
  | .hbm, ⟨2, _⟩ => ⟨S4096x768, .fp8e4m3⟩
  | .hbm, ⟨3, _⟩ => ⟨S768, .f32⟩
  | .hbm, ⟨4, _⟩ => ⟨S3x8192, .i32⟩
  | .hbm, ⟨5, _⟩ => ⟨S24576x4096, .bf16⟩
  | .hbm, ⟨6, _⟩ => ⟨S1x4096, .f32⟩
  | .hbm, ⟨7, _⟩ => ⟨S1x768, .f32⟩
  | .hbm, ⟨8, _⟩ => ⟨S24576x1, .i32⟩
  | .hbm, ⟨9, _⟩ => ⟨S24576x512, .bf16⟩
  | .hbm, ⟨10, _⟩ => ⟨S24576x128, .bf16⟩
  | .hbm, ⟨11, _⟩ => ⟨S24576x128, .bf16⟩
  | .hbm, ⟨12, _⟩ => ⟨S24576x4096, .fp8e4m3⟩
  | .hbm, ⟨13, _⟩ => ⟨S24576x1, .f32⟩
  | .local _ .vmem, ⟨0, _⟩ => ⟨S24576x4096, .bf16⟩
  | .local _ .vmem, ⟨1, _⟩ => ⟨S1x4096, .f32⟩
  | .local _ .vmem, ⟨2, _⟩ => ⟨S4096x768, .fp8e4m3⟩
  | .local _ .vmem, ⟨3, _⟩ => ⟨S1x768, .f32⟩
  | .local _ .vmem, ⟨4, _⟩ => ⟨S24576x1, .i32⟩
  | .local _ .vmem, ⟨5, _⟩ => ⟨S24576x512, .bf16⟩
  | .local _ .vmem, ⟨6, _⟩ => ⟨S24576x128, .bf16⟩
  | .local _ .vmem, ⟨7, _⟩ => ⟨S24576x128, .bf16⟩
  | .local _ .vmem, ⟨8, _⟩ => ⟨S24576x4096, .fp8e4m3⟩
  | .local _ .vmem, ⟨9, _⟩ => ⟨S24576x1, .f32⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S24576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Row.lean ====
/-
  One token's row, as functions of plain rows of extended reals: the normalised row, its shared power-of-two scale, its codes,
  the 768 dequantised products and the rotary mixing of one head. Both programs are shown to compute these functions, row by row.
  They are written in the form the reference writes.
-/
module

public import Idealize.ShloMosaic.PureOps.Ideal

@[expose] public section

noncomputable section

open Idealize.ShloMosaic

namespace Cert.Row

/-- A number below the least normal binary32 number, 2 ^ -126, counts as zero. -/
def flush (y : EReal) : EReal := if y < Ideal.ofBits .f32 0x00800000#32 then 0 else y

/-- The powers of two 2 ^ -125, …, 2 ^ 127, as the reference lists them. -/
def power (k : Fin 253) : EReal :=
  FloatOps.exp2 (F := Ideal) (φ := .f32) (FloatOps.sitofp (F := Ideal) .f32 (BitVec.ofNat 32 k.val) - Ideal.ofBits .f32 0x42FA0000#32)

/-- The least listed power of two above `y`, infinity if there is none. -/
def above (y : EReal) : EReal :=
  Finset.univ.fold min (Ideal.ofBits .f32 0x7F800000#32)
    fun k : Fin 253 => if y < power k then power k else Ideal.ofBits .f32 0x7F800000#32

/-- The scale of a row whose largest magnitude, over the largest code, is `y`: the least power of two above it, and one where
    there is nothing to scale (`y` is zero) or nothing that could (`y` is infinite). -/
def scale (y : EReal) : EReal :=
  Scalar.select (IntOp.ori (BitVec.ofBool (decide (flush y = 0)))
    (BitVec.ofBool (decide (flush y = Ideal.ofBits .f32 0x7F800000#32)))) 1 (above (flush y))

/-- What the row is multiplied by before it is rounded to a code: one over the scale. -/
def inverse (y : EReal) : EReal := flush (Ideal.div 1 (scale y))

/-- Element `k` of the normalised row: `x / sqrt(mean(x²) + 1e-6) · g`. -/
def normal (x g : Fin 4096 → EReal) (k : Fin 4096) : EReal :=
  x k * Ideal.rsqrt (Ideal.div (∑ i, x i * x i) (Ideal.ofBits .f32 0x45800000#32) + Ideal.ofBits .f32 0x358637BD#32) * g k

/-- The largest magnitude among the elements of `f`. -/
def largest (f : Fin 4096 → EReal) : EReal :=
  Finset.univ.fold max (Ideal.ofBits .f32 0xFF800000#32) fun k => FloatOps.absf (F := Ideal) (φ := .f32) (f k)

/-- The largest magnitude in the normalised row over the largest code, 448. -/
def peak (x g : Fin 4096 → EReal) : EReal := largest (normal x g) * Ideal.ofBits .f32 0x3B124925#32

/-- Element `k` of the row of codes: the scaled element clipped to ±448. -/
def code (x g : Fin 4096 → EReal) (k : Fin 4096) : EReal :=
  min (Ideal.ofBits .f32 0x43E00000#32) (max (Ideal.ofBits .f32 0xC3E00000#32) (normal x g k * inverse (peak x g)))

/-- Element `j` of the row's product with the weights, both scales put back. -/
def product (x g : Fin 4096 → EReal) (w : Fin 4096 → Fin 768 → EReal) (s : Fin 768 → EReal) (j : Fin 768) : EReal :=
  (∑ k, code x g k * w k j) * scale (peak x g) * s j

/-- The angle at frequency number `i` of the position `p`: `p · 10000 ^ (-2i / 128)`. -/
def angle (p : BitVec 32) (i : ℕ) : EReal :=
  FloatOps.sitofp (F := Ideal) .f32 p * Ideal.pow (Ideal.ofBits .f32 0x461C4000#32)
    (Ideal.div (0 - FloatOps.sitofp (F := Ideal) .f32 (IntOp.muli 2#32 (BitVec.ofNat 32 i))) (Ideal.ofBits .f32 0x43000000#32))

/-- Lane `l` of the rotary mixing of one head's 128 lanes `t`: lanes 64 apart are turned by their common angle. -/
def rotary (t : Fin 128 → EReal) (p : BitVec 32) (l : Fin 128) : EReal :=
  t l * Ideal.cos (angle p (l.val % 64))
    + (if l.val < 64 then 0 - t ⟨(l.val + 64) % 128, Nat.mod_lt _ (by decide)⟩ else t ⟨(l.val + 64) % 128, Nat.mod_lt _ (by decide)⟩)
      * Ideal.sin (angle p (l.val % 64))

/-- The 128 lanes of `t` from lane `o` on. -/
def head (t : Fin 768 → EReal) (o : ℕ) (ho : o + 128 ≤ 768) (l : Fin 128) : EReal := t ⟨o + l.val, by omega⟩

/-- Lane `j` of the 512 query lanes: four heads of 128 lanes, each turned. -/
def query (t : Fin 768 → EReal) (p : BitVec 32) (j : Fin 512) : EReal :=
  rotary (head t (128 * (j.val / 128)) (by omega)) p ⟨j.val % 128, Nat.mod_lt _ (by decide)⟩

/-- Lane `o + l` of the queries is lane `l` of the turned head that starts at lane `o`. -/
theorem query_eq (t : Fin 768 → EReal) (p : BitVec 32) (o : ℕ) (ho : o + 128 ≤ 512) (hd : 128 ∣ o) (l : Fin 128) (j : Fin 512)
    (hj : j.val = o + l.val) : query t p j = rotary (head t o (by omega)) p l := by
  have e : 128 * (j.val / 128) = o := by omega
  have el : (⟨j.val % 128, Nat.mod_lt _ (by decide)⟩ : Fin 128) = l := by ext; simp only; omega
  unfold query
  rw [el]
  subst e
  rfl

end Cert.Row

end
-- ==== Proof.KernelScale.lean ====
/-
  The kernel's way to the scale: it picks the exponent field of the largest magnitude out of a table of the 256 possible ones and
  builds the scale and its inverse from that field. Here: the scale and the inverse so built are those of Row.lean.
-/
module

public import proofs.«01_k».proof.Proof.Row
public import Idealize.ShloMosaic.Lib.Pointwise

@[expose] public section

noncomputable section

open Idealize.ShloMosaic

namespace Cert.Row

/-- The number whose binary32 exponent field is `b` and whose other bits are zero. -/
def field (b : BitVec 32) : EReal := Ideal.ofBits .f32 (IntOp.shli .vector b 23#32)

/-- The largest exponent field whose number is at most `y`, zero if there is none. -/
def biased (y : EReal) : BitVec 32 :=
  Finset.univ.fold IntOp.maxsi 2147483648#32
    fun k : Fin 256 => if field (BitVec.ofNat 32 k.val) ≤ y then BitVec.ofNat 32 k.val else 0#32

/-- The scale's exponent from the field `n`: one more than the field's, and zero for the fields 0 and 255. -/
def exponent (n : BitVec 32) : BitVec 32 :=
  Scalar.select (IntOp.ori (IntOp.cmpi .eq n 0#32) (IntOp.cmpi .eq n 255#32)) 0#32 (IntOp.subi n 126#32)

/-- The scale from the field `n`. -/
def scaleOf (n : BitVec 32) : EReal := field (IntOp.addi 127#32 (exponent n))

/-- The inverse scale from the field `n`. -/
def inverseOf (n : BitVec 32) : EReal := field (IntOp.maxsi (IntOp.subi 127#32 (exponent n)) 0#32)

/-! ### The largest entry of a table of words -/

/-- The signed maximum of two words, as integers. -/
theorem toInt_maxsi (a b : BitVec 32) : (IntOp.maxsi a b).toInt = max a.toInt b.toInt := by
  unfold IntOp.maxsi
  by_cases h : b.slt a
  · rw [if_pos h]
    have := BitVec.slt_iff_toInt_lt.mp h
    omega
  · rw [if_neg h]
    have : ¬ b.toInt < a.toInt := fun h' => h (BitVec.slt_iff_toInt_lt.mpr h')
    omega

/-- An entry that no entry exceeds is the signed maximum. -/
theorem fold_maxsi_eq {d : ℕ} (f : Fin d → BitVec 32) (b : BitVec 32) (k : Fin d) (hb : b.toInt ≤ (f k).toInt)
    (h : ∀ j, (f j).toInt ≤ (f k).toInt) : Finset.univ.fold IntOp.maxsi b f = f k := by
  apply BitVec.eq_of_toInt_eq
  rw [← Finset.fold_hom (op' := max) (m := BitVec.toInt) toInt_maxsi]
  apply le_antisymm
  · exact (Finset.fold_max_le _).mpr ⟨hb, fun j _ => h j⟩
  · exact (Finset.le_fold_max _).mpr (Or.inr ⟨k, Finset.mem_univ k, le_rfl⟩)

/-- The field of `y` is `k` if `k`'s number is at most `y` (or `k` is zero) and no larger field's is. -/
theorem biased_eq (y : EReal) (k : Fin 256) (hk : k.val = 0 ∨ field (BitVec.ofNat 32 k.val) ≤ y)
    (h : ∀ j : Fin 256, k < j → y < field (BitVec.ofNat 32 j.val)) : biased y = BitVec.ofNat 32 k.val := by
  have ht : ∀ j : Fin 256, (BitVec.ofNat 32 j.val).toInt = j.val := by decide +kernel
  have e : (if field (BitVec.ofNat 32 k.val) ≤ y then BitVec.ofNat 32 k.val else 0#32) = BitVec.ofNat 32 k.val := by
    rcases hk with h0 | h0
    · rw [h0]; exact ite_self _
    · rw [if_pos h0]
  unfold biased
  refine (fold_maxsi_eq _ _ k ?_ fun j => ?_).trans e
  · simp only [e, ht]
    have : (2147483648#32).toInt = -2147483648 := by decide
    omega
  · simp only [e, ht]
    split_ifs with hj
    · rw [ht]
      by_contra hlt
      exact absurd hj (not_le.mpr (h j (by rw [Fin.lt_def]; omega)))
    · have : (0#32).toInt = 0 := by decide
      omega

/-! ### The numbers of the 256 fields -/

/-- The field zero is the number zero. -/
theorem field_zero : field 0#32 = 0 := by
  have : IntOp.shli ArithUnit.vector 0#32 23#32 = 0#32 := by decide
  rw [field, this]
  simp [Ideal.ofBits, Ideal.ieee]

/-- The field 255 is infinity. -/
theorem field_top : field 255#32 = ⊤ := by
  have : IntOp.shli ArithUnit.vector 255#32 23#32 = 0x7F800000#32 := by decide
  rw [field, this]
  simp [Ideal.ofBits, Ideal.ieee]

/-- The bits of a field's number. -/
theorem field_bits : ∀ k : Fin 256, ((IntOp.shli ArithUnit.vector (BitVec.ofNat 32 k.val) 23#32).extractLsb' 31 1 == 1#1) = false
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by decide +kernel

/-- A positive binary32 number whose fraction bits are zero and whose exponent field is from 1 to 254 is a power of two. -/
theorem ieee_pow (b : BitVec 32) (k : ℕ) (h1 : 1 ≤ k) (h2 : k ≤ 254) (hs : (b.extractLsb' 31 1 == 1#1) = false)
    (he : (b.extractLsb' 23 8).toNat = k) (hf : (b.extractLsb' 0 23).toNat = 0) :
    Ideal.ieee 8 23 b = (((2 : ℝ) ^ ((k : ℤ) - 127) : ℝ) : EReal) := by
  unfold Ideal.ieee
  simp only [Nat.reduceAdd, hs, he, hf]
  rw [if_neg (by omega), if_neg (by omega)]
  refine congrArg Real.toEReal ?_
  have : ((k : ℤ) - 127) = 23 + ((k : ℤ) - (2 ^ (8 - 1) - 1) - (23 : ℕ)) := by norm_num
  rw [this, zpow_add₀ (by norm_num)]
  norm_num

/-- A field from 1 to 254 is a power of two. -/
theorem field_pow (k : ℕ) (h1 : 1 ≤ k) (h2 : k ≤ 254) : field (BitVec.ofNat 32 k) = (((2 : ℝ) ^ ((k : ℤ) - 127) : ℝ) : EReal) := by
  obtain ⟨hs, he, hf⟩ := field_bits ⟨k, by omega⟩
  exact ieee_pow _ k h1 h2 hs he hf

/-! ### The scale and the inverse by cases -/

/-- The words shifted into the scale and the inverse, by field. -/
theorem exponent_bits : ∀ k : Fin 256,
    IntOp.addi 127#32 (exponent (BitVec.ofNat 32 k.val)) = BitVec.ofNat 32 (if k.val = 0 ∨ k.val = 255 then 127 else k.val + 1)
    ∧ IntOp.maxsi (IntOp.subi 127#32 (exponent (BitVec.ofNat 32 k.val))) 0#32
      = BitVec.ofNat 32 (if k.val = 0 ∨ k.val = 255 then 127 else 253 - k.val) := by decide +kernel

/-- The scale of the field `k`. -/
theorem scaleOf_eq (k : ℕ) (h : k < 256) :
    scaleOf (BitVec.ofNat 32 k) = field (BitVec.ofNat 32 (if k = 0 ∨ k = 255 then 127 else k + 1)) :=
  congrArg field (exponent_bits ⟨k, h⟩).1

/-- The inverse of the field `k`. -/
theorem inverseOf_eq (k : ℕ) (h : k < 256) :
    inverseOf (BitVec.ofNat 32 k) = field (BitVec.ofNat 32 (if k = 0 ∨ k = 255 then 127 else 253 - k)) :=
  congrArg field (exponent_bits ⟨k, h⟩).2

/-- The field 127 is one. -/
theorem field_one : field (BitVec.ofNat 32 127) = 1 := by
  rw [field_pow 127 (by decide) (by decide)]
  norm_num

/-- The least normal number. -/
theorem least_normal : Ideal.ofBits .f32 0x00800000#32 = (((2 : ℝ) ^ (-126 : ℤ) : ℝ) : EReal) := by
  have := field_pow 1 (by decide) (by decide)
  have e : IntOp.shli ArithUnit.vector (BitVec.ofNat 32 1) 23#32 = 0x00800000#32 := by decide
  rw [field, e] at this
  rw [this]
  norm_num

/-- Infinity's bits. -/
theorem infinity : Ideal.ofBits .f32 0x7F800000#32 = ⊤ := by simp [Ideal.ofBits, Ideal.ieee]

/-- The listed powers. -/
theorem power_eq (k : Fin 253) : power k = (((2 : ℝ) ^ ((k.val : ℤ) - 125) : ℝ) : EReal) := by
  have e : Ideal.ofBits .f32 0x42FA0000#32 = ((125 : ℝ) : EReal) := by
    simp [Ideal.ofBits, Ideal.ieee, -EReal.coe_mul]
    norm_num
  have ht : ∀ k : Fin 253, (BitVec.ofNat 32 k.val).toInt = k.val := by decide +kernel
  have h : power k = Ideal.exp2 ((((BitVec.ofNat 32 k.val).toInt : ℝ) : EReal) - Ideal.ofBits .f32 0x42FA0000#32) := rfl
  rw [h, e, ht, ← EReal.coe_sub]
  refine congrArg Real.toEReal ?_
  rw [← Real.rpow_intCast]
  exact congrArg (Real.rpow 2) (by push_cast; ring)

end Cert.Row

end
-- ==== Proof.ScaleEq.lean ====
/-
  The two ways to the scale agree: built from the largest exponent field at most the magnitude, or as the least listed power of two
  above the magnitude.
-/
module

public import proofs.«01_k».proof.Proof.KernelScale

@[expose] public section

noncomputable section

open Idealize.ShloMosaic

namespace Cert.Row

/-- The power of two with exponent `i`. -/
def two (i : ℤ) : EReal := (((2 : ℝ) ^ i : ℝ) : EReal)

theorem two_le (i j : ℤ) : two i ≤ two j ↔ i ≤ j := by
  unfold two
  rw [EReal.coe_le_coe_iff]
  exact zpow_le_zpow_iff_right₀ (by norm_num)

theorem two_lt (i j : ℤ) : two i < two j ↔ i < j := by
  rw [← not_le, two_le, not_le]

theorem two_lt_top (i : ℤ) : two i < ⊤ := EReal.coe_lt_top _

theorem two_pos (i : ℤ) : 0 < two i := by
  unfold two
  exact_mod_cast zpow_pos (by norm_num : (0 : ℝ) < 2) i

theorem two_zero : two 0 = 1 := by
  unfold two
  norm_num

/-- The field `k` is the power `k - 127`. -/
theorem field_two (k : ℕ) (h1 : 1 ≤ k) (h2 : k ≤ 254) : field (BitVec.ofNat 32 k) = two ((k : ℤ) - 127) := field_pow k h1 h2

/-- One over a power of two. -/
theorem div_two (i : ℤ) : Ideal.div 1 (two i) = two (-i) := by
  have h : (2 : ℝ) ^ i ≠ 0 := zpow_ne_zero _ (by norm_num)
  have e : Ideal.div 1 (two i) = 1 * ((1 / (2 : ℝ) ^ i : ℝ) : EReal) := Ideal.div_coe h 1
  rw [e, one_mul]
  unfold two
  rw [zpow_neg, one_div]

/-- A number at least the least normal one is not flushed. -/
theorem flush_of_le (y : EReal) (h : two (-126) ≤ y) : flush y = y := by
  unfold flush
  rw [least_normal]
  exact if_neg (not_lt.mpr h)

/-- A number below the least normal one is flushed. -/
theorem flush_of_lt (y : EReal) (h : y < two (-126)) : flush y = 0 := by
  unfold flush
  rw [least_normal]
  exact if_pos h

/-- The least listed power above `y` is the `k`-th if the `k`-th is above `y` and no earlier one is. -/
theorem above_eq (y : EReal) (k : Fin 253) (hk : y < two ((k.val : ℤ) - 125)) (h : ∀ j : Fin 253, j < k → two ((j.val : ℤ) - 125) ≤ y) :
    above y = two ((k.val : ℤ) - 125) := by
  unfold above
  rw [infinity]
  have hp : ∀ j : Fin 253, power j = two ((j.val : ℤ) - 125) := power_eq
  apply le_antisymm
  · refine (Finset.fold_min_le _).mpr (Or.inr ⟨k, Finset.mem_univ k, ?_⟩)
    rw [hp, if_pos hk]
  · refine (Finset.le_fold_min _).mpr ⟨le_top, fun j _ => ?_⟩
    rw [hp]
    split_ifs with hj
    · rw [two_le]
      by_contra hlt
      exact absurd hj (not_lt.mpr (h j (by rw [Fin.lt_def]; omega)))
    · exact le_top

/-- No listed power is above a number at least the last of them. -/
theorem above_eq_top (y : EReal) (h : two 127 ≤ y) : above y = ⊤ := by
  unfold above
  rw [infinity]
  refine top_le_iff.mp ((Finset.le_fold_min _).mpr ⟨le_top, fun j _ => ?_⟩)
  have hp : power j = two ((j.val : ℤ) - 125) := power_eq j
  rw [if_neg]
  rw [hp, not_lt]
  exact ((two_le _ _).mpr (by omega)).trans h

/-- The scale where there is something to scale. -/
theorem scale_of_ne (y : EReal) (h : two (-126) ≤ y) (ht : y ≠ ⊤) : scale y = above y := by
  have h0 : y ≠ 0 := fun e => absurd ((two_pos (-126)).trans_le h) (by rw [e]; exact lt_irrefl _)
  unfold scale
  rw [flush_of_le y h, infinity, decide_eq_false h0, decide_eq_false ht]
  rfl

/-- A choice whose first condition holds. -/
theorem select_left (b : BitVec 1) (u z : EReal) : Scalar.select (IntOp.ori (BitVec.ofBool true) b) u z = u := by
  have : IntOp.ori (BitVec.ofBool true) b = 1#1 := by revert b; decide
  rw [this]
  rfl

/-- A choice whose second condition holds. -/
theorem select_right (b : BitVec 1) (u z : EReal) : Scalar.select (IntOp.ori b (BitVec.ofBool true)) u z = u := by
  have : IntOp.ori b (BitVec.ofBool true) = 1#1 := by revert b; decide
  rw [this]
  rfl

/-- What the two ways agree on. -/
def Agree (y : EReal) : Prop := scaleOf (biased y) = scale y ∧ inverseOf (biased y) = inverse y

/-- One over one, not flushed. -/
theorem flush_div_one : flush (Ideal.div 1 1) = 1 := by
  have e := div_two 0
  rw [two_zero, neg_zero, two_zero] at e
  rw [e, ← two_zero]
  exact flush_of_le _ ((two_le _ _).mpr (by norm_num))

/-- They agree where both take one. -/
theorem agree_one (y : EReal) (k : ℕ) (hk : k = 0 ∨ k = 255) (hb : biased y = BitVec.ofNat 32 k) (hs : scale y = 1) : Agree y := by
  unfold Agree inverse
  rw [hb, scaleOf_eq k (by omega), inverseOf_eq k (by omega), if_pos hk, if_pos hk, field_one, hs, flush_div_one]
  exact ⟨rfl, rfl⟩

/-- A number below the least normal one has the scale one. -/
theorem agree_small (y : EReal) (h : y < two (-126)) : Agree y := by
  refine agree_one y 0 (Or.inl rfl) (biased_eq y 0 (Or.inl rfl) fun j hj => ?_) ?_
  · have hj' : 1 ≤ j.val := by rw [Fin.lt_def] at hj; exact hj
    by_cases h5 : j.val = 255
    · rw [h5]
      exact lt_of_lt_of_eq (h.trans (two_lt_top _)) field_top.symm
    · rw [field_two j.val hj' (by omega)]
      exact h.trans_le ((two_le _ _).mpr (by omega))
  · unfold scale
    rw [flush_of_lt y h, decide_eq_true rfl]
    exact select_left _ _ _

/-- Infinity has the scale one. -/
theorem agree_top : Agree ⊤ := by
  refine agree_one ⊤ 255 (Or.inr rfl) (biased_eq ⊤ 255 (Or.inr le_top) fun j hj => ?_) ?_
  · have hj' : 255 < j.val := hj
    omega
  · unfold scale
    rw [flush_of_le ⊤ le_top, infinity, decide_eq_true rfl]
    exact select_right _ _ _

/-- A finite number from 2 ^ 127 on has the scale infinity and the inverse zero. -/
theorem agree_large (y : EReal) (h : two 127 ≤ y) (ht : y < ⊤) : Agree y := by
  have hb : biased y = BitVec.ofNat 32 254 := by
    refine biased_eq y 254 (Or.inr ?_) fun j hj => ?_
    · exact (field_two 254 (by decide) (by decide)).trans_le h
    · have hj' : 254 < j.val := hj
      have h5 : j.val = 255 := by omega
      rw [h5]
      exact lt_of_lt_of_eq ht field_top.symm
  have hs : scale y = ⊤ := (scale_of_ne y (((two_le _ _).mpr (by norm_num)).trans h) ht.ne).trans (above_eq_top y h)
  have hd : Ideal.div 1 ⊤ = 0 := by
    unfold Ideal.div
    rw [if_neg EReal.top_ne_zero, EReal.inv_top, mul_zero]
  unfold Agree inverse
  rw [hb, scaleOf_eq 254 (by decide), inverseOf_eq 254 (by decide), hs, hd, flush_of_lt 0 (two_pos _)]
  exact ⟨field_top, field_zero⟩

/-- A number from 2 ^ (n - 127) up to 2 ^ (n - 126) has the scale 2 ^ (n - 126). -/
theorem agree_binade (y : EReal) (n : ℕ) (h1 : 1 ≤ n) (h2 : n ≤ 253) (hl : two ((n : ℤ) - 127) ≤ y) (hu : y < two ((n : ℤ) - 126)) :
    Agree y := by
  have hb : biased y = BitVec.ofNat 32 n := by
    refine biased_eq y ⟨n, by omega⟩ (Or.inr ?_) fun j hj => ?_
    · exact (field_two n h1 (by omega)).trans_le hl
    · rw [Fin.lt_def] at hj
      simp only at hj
      by_cases h5 : j.val = 255
      · rw [h5]
        exact lt_of_lt_of_eq (hu.trans (two_lt_top _)) field_top.symm
      · rw [field_two j.val (by omega) (by have := j.isLt; omega)]
        exact hu.trans_le ((two_le _ _).mpr (by omega))
  have ha : above y = two ((n : ℤ) - 126) := by
    have e : ((n - 1 : ℕ) : ℤ) - 125 = (n : ℤ) - 126 := by omega
    rw [← e]
    refine above_eq y ⟨n - 1, by omega⟩ (hu.trans_eq (congrArg two e.symm)) fun j hj => ?_
    rw [Fin.lt_def] at hj
    simp only at hj
    exact ((two_le _ _).mpr (by omega)).trans hl
  have hs : scale y = two ((n : ℤ) - 126) :=
    (scale_of_ne y (((two_le _ _).mpr (by omega)).trans hl) (hu.trans (two_lt_top _)).ne).trans ha
  unfold Agree inverse
  rw [hb, scaleOf_eq n (by omega), inverseOf_eq n (by omega), hs, div_two, if_neg (by omega), if_neg (by omega)]
  constructor
  · rw [field_two (n + 1) (by omega) (by omega)]
    congr 1
    push_cast
    ring
  · by_cases h3 : n = 253
    · subst h3
      rw [flush_of_lt _ ((two_lt _ _).mpr (by norm_num))]
      exact field_zero
    · rw [field_two (253 - n) (by omega) (by omega), flush_of_le _ ((two_le _ _).mpr (by omega))]
      congr 1
      omega

/-- The two ways to the scale, and to its inverse, agree on every number. -/
theorem agree (y : EReal) : Agree y := by
  by_cases hs : y < two (-126)
  · exact agree_small y hs
  by_cases ht : y = ⊤
  · rw [ht]; exact agree_top
  by_cases hl : two 127 ≤ y
  · exact agree_large y hl (lt_top_iff_ne_top.mpr ht)
  rw [not_lt] at hs
  rw [not_le] at hl
  induction y with
  | bot => exact absurd hs (not_le.mpr (EReal.bot_lt_coe _))
  | top => exact absurd rfl ht
  | coe v =>
    have h0 : 0 < v := EReal.coe_pos.mp ((two_pos (-126)).trans_le hs)
    obtain ⟨n, hn1, hn2⟩ := exists_mem_Ico_zpow h0 (by norm_num : (1 : ℝ) < 2)
    have hn1' : two n ≤ (v : EReal) := EReal.coe_le_coe_iff.mpr hn1
    have hn2' : (v : EReal) < two (n + 1) := EReal.coe_lt_coe_iff.mpr hn2
    have a1 : -126 < n + 1 := (two_lt _ _).mp (hs.trans_lt hn2')
    have a2 : n < 127 := (two_lt _ _).mp (hn1'.trans_lt hl)
    obtain ⟨k, hk⟩ : ∃ k : ℕ, (k : ℤ) = n + 127 := ⟨(n + 127).toNat, by omega⟩
    refine agree_binade v k (by omega) (by omega) ?_ ?_
    · rw [hk]; exact hn1'.trans_eq' (by congr 1; omega)
    · rw [hk]; exact hn2'.trans_eq (by congr 1; omega)

end Cert.Row

end
-- ==== Proof.RowReduce.lean ====
/-
  Reductions along the rows of a matrix of any size, read at one row: a maximum and a minimum of extended reals, and a signed
  maximum of words.
-/
module

public import Idealize.ShloMosaic.Lib.Pointwise

@[expose] public section

noncomputable section

open Idealize.ShloMosaic

namespace Cert.Row

variable {n d : ℕ}

/-- A maximum along the rows is, at row `j`, the maximum of that row's elements. -/
theorem max_apply (v : FVec Ideal ⟨2, ![n, d]⟩ .f32) (acc : BitVec 32) (h : (⟨2, ![n, d]⟩ : Shape).Reduces [1] ⟨1, ![n]⟩)
    (hφ : FKind.Formats .f32) (hacc : acc = FKind.maximumf.neutral .f32 hφ) (j : Fin n) :
    multiReduction (F := Ideal) .maximumf [1] ⟨1, ![n]⟩ v acc h hφ hacc (ix1 j)
      = Finset.univ.fold max (Ideal.ofBits .f32 acc) fun k : Fin d => v (ix2 j k) := by
  rw [multiReduction_maximumf_eq_fold, Shape.Reduces.fold_fiber_r2_a1]
  rfl

/-- A minimum along the rows is, at row `j`, the minimum of that row's elements. -/
theorem min_apply (v : FVec Ideal ⟨2, ![n, d]⟩ .f32) (acc : BitVec 32) (h : (⟨2, ![n, d]⟩ : Shape).Reduces [1] ⟨1, ![n]⟩)
    (hφ : FKind.Formats .f32) (hacc : acc = FKind.minimumf.neutral .f32 hφ) (j : Fin n) :
    multiReduction (F := Ideal) .minimumf [1] ⟨1, ![n]⟩ v acc h hφ hacc (ix1 j)
      = Finset.univ.fold min (Ideal.ofBits .f32 acc) fun k : Fin d => v (ix2 j k) := by
  rw [multiReduction_minimumf_eq_fold, Shape.Reduces.fold_fiber_r2_a1]
  rfl

/-- A signed maximum of words along the rows is, at row `j`, the signed maximum of that row's words. -/
theorem maxsi_apply (v : IVec ⟨2, ![n, d]⟩ 32) (acc : BitVec 32) (h : (⟨2, ![n, d]⟩ : Shape).Reduces [1] ⟨1, ![n]⟩)
    (hacc : acc = IKind.maxsi.neutral) (j : Fin n) :
    multiReductionI .maxsi [1] ⟨1, ![n]⟩ v acc h hacc (ix1 j)
      = Finset.univ.fold IntOp.maxsi acc fun k : Fin d => v (ix2 j k) := by
  rw [multiReductionI_eq_fold, Shape.Reduces.fold_fiber_r2_a1]
  rfl

end Cert.Row

end
-- ==== Proof.KernelBody.lean ====
/-
  The kernel's values at one block, one row at a time: at row `r` each of the body's arrays is the function of Row.lean of the
  input blocks' row `r`.
-/
module

public import proofs.«01_k».proof.Proof.Gen.KernelIdeal.Skeleton
public import proofs.«01_k».proof.Proof.ScaleEq
public import proofs.«01_k».proof.Proof.RowReduce
public import Idealize.ShloMosaic.Lib.Pointwise

@[expose] public section

set_option maxRecDepth 16384

noncomputable section

open Idealize.ShloMosaic

namespace Cert.KernelIdeal.Body

open Cert.KernelIdeal Cert.KernelIdeal.Gen

variable (x : Vec Ideal S256x4096 .bf16) (g : Vec Ideal S1x4096 .f32) (w : Vec Ideal S4096x768 .fp8e4m3)
  (s : Vec Ideal S1x768 .f32) (p : Vec Ideal S256x1 .i32)

/-- Row `r` of the input block. -/
abbrev row (r : Fin 256) (k : Fin 4096) : EReal := x (ix2 r k)
/-- The gains, as a row. -/
abbrev gain (k : Fin 4096) : EReal := g (ix2 0 k)
/-- The weights' codes. -/
abbrev weight (k : Fin 4096) (j : Fin 768) : EReal := w (ix2 k j)
/-- The weights' scales, as a row. -/
abbrev wscale (j : Fin 768) : EReal := s (ix2 0 j)

/-- To find what `a` is, give it a name and read it. -/
theorem read {α : Type} {a b : α} (h : ∀ z, a = z → b = z) : a = b := (h a rfl).symm

/-! ### The normalised block and its scale -/

/-- Times 1/4096 is over 4096. -/
theorem mean_eq (t : EReal) : t * Ideal.ofBits .f32 0x39800000#32 = Ideal.div t (Ideal.ofBits .f32 0x45800000#32) := by
  have e1 : Ideal.ofBits .f32 0x39800000#32 = ((1 / 4096 : ℝ) : EReal) := by
    simp [Ideal.ofBits, Ideal.ieee, -EReal.coe_mul]
    norm_num
  have e2 : Ideal.ofBits .f32 0x45800000#32 = ((4096 : ℝ) : EReal) := by
    simp [Ideal.ofBits, Ideal.ieee, -EReal.coe_mul]
    norm_num
  rw [e1, e2]
  exact (Ideal.div_coe (by norm_num) t).symm

/-- The normalised block at row `r`. -/
theorem normal_apply (r : Fin 256) (k : Fin 4096) :
    k0_pay6 (F := Ideal) x g (ix2 r k) = Row.normal (row x r) (gain g) k := by
  refine read fun z hz => ?_
  pointwise [k0_pay6] at hz
  unfold Row.normal
  rw [← mean_eq]
  exact hz

/-- A column read at row `r`. -/
theorem column_apply {α : Type} (M : S256.Idx → α) (r : Fin 256) :
    shapeCast S256x1 M shapeCasts_S256_S256x1 (ix2 r 0) = M (ix1 r) := by
  pointwise

/-- The largest magnitude at row `r`. -/
theorem largest_apply (r : Fin 256) :
    multiReduction (F := Ideal) .maximumf [1] S256 (absf (k0_pay6 x g)) 0xFF800000#32
      reduces_S256x4096_S256 (.inl rfl) rfl (ix1 r) = Row.largest (Row.normal (row x r) (gain g)) := by
  refine (Row.max_apply (absf (k0_pay6 x g)) _ _ _ _ r).trans ?_
  unfold Row.largest
  exact Finset.fold_congr fun k _ => congrArg (FloatOps.absf (F := Ideal) (φ := .f32)) (normal_apply x g r k)

/-- One entry of the table of fields whose number is at most row `r`'s largest magnitude over 448. -/
theorem entry_of (M : FVec Ideal S256 .f32) (r : Fin 256) (k : Fin 256) :
    select (cmpf .oge
        (broadcastTo S256x256 (mulf (shapeCast S256x1 M shapeCasts_S256_S256x1)
          (broadcast S256x1 (Scalar.ofBits (F := Ideal) .f32 0x3B124925#32))) broadcasts_S256x1_S256x256)
        (broadcastTo S256x256 (bitcastToFloat (F := Ideal) .f32
          (shli (iota .tc S1x256 32 [1] iota_S1x256_d1_w32) (broadcast S1x256 23#32))) broadcasts_S1x256_S256x256))
      (broadcastTo S256x256 (shapeCast S1x256 (iota .tc S1x256 32 [1] iota_S1x256_d1_w32) shapeCasts_S1x256_S1x256)
        broadcasts_S1x256_S256x256)
      (broadcast S256x256 0#32) (ix2 r k)
      = if Row.field (BitVec.ofNat 32 k.val) ≤ M (ix1 r) * Ideal.ofBits .f32 0x3B124925#32 then BitVec.ofNat 32 k.val else 0#32 := by
  unfold Row.field
  refine read fun z hz => ?_
  pointwise at hz
  exact hz

/-- The exponent field of the largest magnitude over 448 at row `r`. -/
theorem biased_apply (r : Fin 256) :
    k0_pay7 (F := Ideal) x g (ix2 r 0) = Row.biased (Row.peak (row x r) (gain g)) := by
  unfold k0_pay7
  refine (column_apply _ r).trans ((Row.maxsi_apply _ _ _ _ r).trans ?_)
  unfold Row.biased Row.peak
  rw [← largest_apply]
  exact Finset.fold_congr fun k _ => entry_of _ r k

/-- The exponent from the field, at row `r`. -/
theorem exponent_of (n : IVec S256x1 32) (r : Fin 256) :
    k0_pay11 (ori (cmpi .eq n (broadcast S256x1 0#32)) (cmpi .eq n (broadcast S256x1 255#32))) (subi n (broadcast S256x1 126#32))
      (broadcast S256x1 0#32) (ix2 r 0) = Row.exponent (n (ix2 r 0)) := by
  unfold Row.exponent
  refine read fun z hz => ?_
  pointwise [k0_pay11] at hz
  exact hz

/-- The exponent of the scale at row `r`. -/
theorem exponent_apply (r : Fin 256) :
    k0_pay11 (k0_pay8 (F := Ideal) x g) (k0_pay9 (F := Ideal) x g) k0_pay10 (ix2 r 0)
      = Row.exponent (Row.biased (Row.peak (row x r) (gain g))) :=
  (exponent_of (k0_pay7 (F := Ideal) x g) r).trans (congrArg Row.exponent (biased_apply x g r))

/-- The scale from the exponent, at row `r`. -/
theorem scale_of (a : IVec S256x1 1) (b c : IVec S256x1 32) (r : Fin 256) :
    k0_pay12 (F := Ideal) a b c (ix2 r 0) = Row.field (IntOp.addi 127#32 (k0_pay11 a b c (ix2 r 0))) := by
  unfold Row.field k0_pay12
  generalize k0_pay11 a b c = e
  refine read fun z hz => ?_
  pointwise at hz
  exact hz

/-- The scale at row `r`. -/
theorem scale_apply (r : Fin 256) :
    k0_pay12 (F := Ideal) (k0_pay8 (F := Ideal) x g) (k0_pay9 (F := Ideal) x g) k0_pay10 (ix2 r 0)
      = Row.scale (Row.peak (row x r) (gain g)) := by
  rw [scale_of, exponent_apply]
  exact (Row.agree _).1

/-- The codes from the normalised block and the exponents, at row `r`. -/
theorem code_of (y : FVec Ideal S256x4096 .f32) (a : IVec S256x1 1) (b c : IVec S256x1 32) (r : Fin 256) (k : Fin 4096) :
    k0_pay13 (F := Ideal) y a b c (ix2 r k)
      = min (Ideal.ofBits .f32 0x43E00000#32) (max (Ideal.ofBits .f32 0xC3E00000#32)
          (y (ix2 r k) * Row.field (IntOp.maxsi (IntOp.subi 127#32 (k0_pay11 a b c (ix2 r 0))) 0#32))) := by
  unfold Row.field k0_pay13
  generalize k0_pay11 a b c = e
  refine read fun z hz => ?_
  pointwise at hz
  exact hz

/-- The inverse of the scale at row `r`. -/
theorem inverse_apply (r : Fin 256) :
    Row.field (IntOp.maxsi (IntOp.subi 127#32 (k0_pay11 (k0_pay8 (F := Ideal) x g) (k0_pay9 (F := Ideal) x g) k0_pay10 (ix2 r 0))) 0#32)
      = Row.inverse (Row.peak (row x r) (gain g)) := by
  rw [exponent_apply]
  exact (Row.agree _).2

/-- The codes at row `r`. -/
theorem code_apply (r : Fin 256) (k : Fin 4096) :
    k0_pay13 (F := Ideal) (k0_pay6 x g) (k0_pay8 (F := Ideal) x g) (k0_pay9 (F := Ideal) x g) k0_pay10 (ix2 r k)
      = Row.code (row x r) (gain g) k := by
  rw [code_of, inverse_apply, normal_apply, Row.code]

/-- The product from the codes and the scales, at row `r`. -/
theorem product_of (y : FVec Ideal S256x4096 .f32) (a : IVec S256x1 1) (b c : IVec S256x1 32) (r : Fin 256) (j : Fin 768) :
    k0_pay14 (F := Ideal) y a b c w s (ix2 r j)
      = (∑ k, k0_pay13 (F := Ideal) y a b c (ix2 r k) * w (ix2 k j)) * k0_pay12 (F := Ideal) a b c (ix2 r 0) * s (ix2 0 j) := by
  refine read fun z hz => ?_
  pointwise [k0_pay14] at hz
  exact hz

/-- The product at row `r`. -/
theorem product_apply (r : Fin 256) (j : Fin 768) :
    k0_pay14 (F := Ideal) (k0_pay6 x g) (k0_pay8 (F := Ideal) x g) (k0_pay9 (F := Ideal) x g) k0_pay10 w s (ix2 r j)
      = Row.product (row x r) (gain g) (weight w) (wscale s) j := by
  rw [product_of, scale_apply, Row.product]
  exact congrArg (fun t => t * Row.scale (Row.peak (row x r) (gain g)) * s (ix2 0 j))
    (Finset.sum_congr rfl fun k _ => congrArg (· * w (ix2 k j)) (code_apply x g r k))

/-! ### The turned heads -/

/-- The number of frequencies, as the lane numbers' remainder is written. -/
abbrev count : BitVec 32 := Scalar.select (Scalar.cmpi .eq 64#32 0#32) 1#32 64#32

/-- The lane numbers' remainders by 64. -/
def remainder : IVec S1x128 32 :=
  select (andi (xori (cmpi .slt k0_pay15 (broadcast S1x128 0#32))
        (broadcastTo S1x128 (broadcast S1x128 (Scalar.cmpi .slt count 0#32)) broadcasts_S1x128_S1x128)) k0_pay16)
    (addi k0_pay15 (broadcast S1x128 count)) k0_pay15

/-- The remainder at lane `l`. -/
theorem remainder_apply (l : Fin 128) : remainder (ix2 0 l) = BitVec.ofNat 32 (l.val % 64) := by
  refine read fun z hz => ?_
  pointwise [remainder, k0_pay15, k0_pay16] at hz
  rw [← hz]
  clear hz z
  revert l
  decide +kernel

/-- The angles from the remainders, at row `r`. -/
theorem angle_of (i : IVec S1x128 32) (r : Fin 256) (l : Fin 128) :
    mulf (broadcastTo S256x128 (sitofp (F := Ideal) .f32 (shapeCast S256x1 p shapeCasts_S256x1_S256x1)) broadcasts_S256x1_S256x128)
      (broadcastTo S256x128 (powf (broadcast S1x128 (Scalar.ofBits (F := Ideal) .f32 0x461C4000#32))
        (divf (subf (broadcast S1x128 (Scalar.ofBits (F := Ideal) .f32 0x00000000#32)) (sitofp (F := Ideal) .f32 (muli (broadcast S1x128 2#32) i)))
          (broadcast S1x128 (Scalar.ofBits (F := Ideal) .f32 0x43000000#32)))) broadcasts_S1x128_S256x128) (ix2 r l)
      = FloatOps.sitofp (F := Ideal) .f32 (p (ix2 r 0)) * Ideal.pow (Ideal.ofBits .f32 0x461C4000#32)
          (Ideal.div (0 - FloatOps.sitofp (F := Ideal) .f32 (IntOp.muli 2#32 (i (ix2 0 l)))) (Ideal.ofBits .f32 0x43000000#32)) := by
  refine read fun z hz => ?_
  pointwise at hz
  exact hz

/-- The angles at row `r`: the 64 frequencies, twice. -/
theorem angle_apply (r : Fin 256) (l : Fin 128) :
    k0_pay17 (F := Ideal) count k0_pay15 k0_pay16 0#32 p (ix2 r l) = Row.angle (p (ix2 r 0)) (l.val % 64) := by
  refine (angle_of p remainder r l).trans ?_
  rw [remainder_apply, Row.angle]

/-- The cosines. -/
abbrev cosine : FVec Ideal S256x128 .f32 := k0_pay18 (F := Ideal) count k0_pay15 k0_pay16 0#32 p

/-- The sines, negated in the first half of the lanes. -/
abbrev sine : FVec Ideal S256x128 .f32 :=
  k0_pay19 (F := Ideal) (iota .tc S1x128 32 [1] iota_S1x128_d1_w32) count k0_pay15 k0_pay16 0#32 p

/-- The sines at row `r`. -/
theorem sine_apply (r : Fin 256) (l : Fin 128) :
    sine p (ix2 r l) = if l.val < 64 then 0 - Ideal.sin (Row.angle (p (ix2 r 0)) (l.val % 64))
      else Ideal.sin (Row.angle (p (ix2 r 0)) (l.val % 64)) := by
  rw [← angle_apply]
  unfold sine k0_pay19
  generalize k0_pay17 (F := Ideal) count k0_pay15 k0_pay16 0#32 p = a
  refine read fun z hz => ?_
  pointwise at hz
  rw [← hz]
  have h : ∀ l : Fin 128, IntOp.cmpi .slt (BitVec.ofNat 32 l.val) 64#32 = if l.val < 64 then 1#1 else 0#1 := by decide +kernel
  rw [h]
  by_cases h' : l.val < 64
  · rw [if_pos h', if_pos h']; rfl
  · rw [if_neg h', if_neg h']; rfl

/-- One head's lanes `u` turned: the lanes times the cosines `c`, plus the lanes 64 further on times the signed sines `s`. -/
def turned (u c s : FVec Ideal S256x128 .f32) : FVec Ideal S256x128 .f32 :=
  addf (mulf u c) (mulf (dynamicRotate 1 64#32 none u rotates_S256x128_d1) s)

/-- A turned head read at row `r`. -/
theorem turned_of (u c s : FVec Ideal S256x128 .f32) (r : Fin 256) (l : Fin 128) :
    turned u c s (ix2 r l) = u (ix2 r l) * c (ix2 r l)
      + u (ix2 r ⟨(l.val + 64) % 128, Nat.mod_lt _ (by decide)⟩) * s (ix2 r l) := by
  refine read fun z hz => ?_
  pointwise [turned] at hz
  rw [← hz]
  exact congrArg (fun i => u (ix2 r l) * c (ix2 r l) + u (ix2 r i) * s (ix2 r l)) (Fin.ext (by simp only; omega))

/-- One head turned, at row `r`. -/
theorem turned_apply (u : FVec Ideal S256x128 .f32) (r : Fin 256) (l : Fin 128) :
    turned u (cosine p) (sine p) (ix2 r l) = Row.rotary (fun l => u (ix2 r l)) (p (ix2 r 0)) l := by
  have hc : cosine p (ix2 r l) = Ideal.cos (Row.angle (p (ix2 r 0)) (l.val % 64)) := congrArg Ideal.cos (angle_apply p r l)
  rw [turned_of, sine_apply, hc]
  unfold Row.rotary
  by_cases h : l.val < 64
  · rw [if_pos h, if_pos h, zero_sub, zero_sub, neg_mul, mul_neg]
  · rw [if_neg h, if_neg h]

/-- A head cut out of the product, at row `r`. -/
theorem cut_apply (t : FVec Ideal S256x768 .f32) (o : ℕ) (ho : o + 128 ≤ 768) (hs : S256x768.Slices ![0, o] S256x128)
    (r : Fin 256) (l : Fin 128) :
    extractStridedSlice S256x128 ![0, o] t hs (ix2 r l) = Row.head (fun j => t (ix2 r j)) o ho l := by
  pointwise [Row.head]

/-- A head of the product turned, at row `r`. -/
theorem head_apply (t : FVec Ideal S256x768 .f32) (o : ℕ) (hs : S256x768.Slices ![0, o] S256x128) (ho : o + 128 ≤ 768)
    (r : Fin 256) (l : Fin 128) :
    turned (extractStridedSlice S256x128 ![0, o] t hs) (cosine p) (sine p) (ix2 r l)
      = Row.rotary (Row.head (fun j => t (ix2 r j)) o ho) (p (ix2 r 0)) l :=
  (turned_apply p _ r l).trans (congrArg (fun f => Row.rotary f (p (ix2 r 0)) l) (funext fun l => cut_apply t o ho hs r l))

/-- The first query head. -/
theorem q0_apply (t : FVec Ideal S256x768 .f32) (r : Fin 256) (l : Fin 128) :
    k0_pay20 (F := Ideal) t (iota .tc S1x128 32 [1] iota_S1x128_d1_w32) count k0_pay15 k0_pay16 0#32 p (ix2 r l)
      = Row.rotary (Row.head (fun j => t (ix2 r j)) 0 (by decide)) (p (ix2 r 0)) l := by
  exact head_apply p t 0 slices_S256x768_o0_0_S256x128 (by decide) r l

/-- The second query head. -/
theorem q1_apply (t : FVec Ideal S256x768 .f32) (r : Fin 256) (l : Fin 128) :
    k0_pay1 (F := Ideal) (k0_pay22 t count k0_pay15 k0_pay16 0#32 p)
        (k0_pay23 t (iota .tc S1x128 32 [1] iota_S1x128_d1_w32) count k0_pay15 k0_pay16 0#32 p) (ix2 r l)
      = Row.rotary (Row.head (fun j => t (ix2 r j)) 128 (by decide)) (p (ix2 r 0)) l := by
  exact head_apply p t 128 slices_S256x768_o0_128_S256x128 (by decide) r l

/-- The third query head. -/
theorem q2_apply (t : FVec Ideal S256x768 .f32) (r : Fin 256) (l : Fin 128) :
    k0_pay2 (F := Ideal) t (cosine p) (sine p) (ix2 r l)
      = Row.rotary (Row.head (fun j => t (ix2 r j)) 256 (by decide)) (p (ix2 r 0)) l := by
  exact head_apply p t 256 slices_S256x768_o0_256_S256x128 (by decide) r l

/-- The fourth query head. -/
theorem q3_apply (t : FVec Ideal S256x768 .f32) (r : Fin 256) (l : Fin 128) :
    k0_pay3 (F := Ideal) t (cosine p) (sine p) (ix2 r l)
      = Row.rotary (Row.head (fun j => t (ix2 r j)) 384 (by decide)) (p (ix2 r 0)) l := by
  exact head_apply p t 384 slices_S256x768_o0_384_S256x128 (by decide) r l

/-- The key head. -/
theorem k_apply (t : FVec Ideal S256x768 .f32) (r : Fin 256) (l : Fin 128) :
    k0_pay4 (F := Ideal) t (cosine p) (sine p) (ix2 r l)
      = Row.rotary (Row.head (fun j => t (ix2 r j)) 512 (by decide)) (p (ix2 r 0)) l := by
  exact head_apply p t 512 slices_S256x768_o0_512_S256x128 (by decide) r l

/-- The values are the product's lanes from 640 on. -/
theorem v_apply (t : FVec Ideal S256x768 .f32) (r : Fin 256) (l : Fin 128) :
    k0_pay5 (F := Ideal) t (ix2 r l) = Row.head (fun j => t (ix2 r j)) 640 (by decide) l := by
  exact cut_apply t 640 (by decide) slices_S256x768_o0_640_S256x128 r l

end Cert.KernelIdeal.Body

end
-- ==== Proof.KernelBlock.lean ====
/-
  What one point of the kernel's grid leaves in each result's block, as rows of its input blocks.
-/
module

public import proofs.«01_k».proof.Proof.Gen.KernelIdeal.Frame
public import proofs.«01_k».proof.Proof.KernelBody
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Body

variable (x : Vec Ideal S256x4096 .bf16) (g : Vec Ideal S1x4096 .f32) (w : Vec Ideal S4096x768 .fp8e4m3) (s : Vec Ideal S1x768 .f32)
  (p : Vec Ideal S256x1 .i32)

/-! ## A load of a whole block is the block -/

theorem ld_x : View.ld x r0_0 = x := View.ld_unit_zero (by decide) _ x
theorem ld_g : View.ld g r0_1 = g := View.ld_unit_zero (by decide) _ g
theorem ld_w : View.ld w r0_3 = w := View.ld_unit_zero (by decide) _ w
theorem ld_s : View.ld s r0_4 = s := View.ld_unit_zero (by decide) _ s
theorem ld_p : View.ld p r0_2 = p := View.ld_unit_zero (by decide) _ p

/-- The product of the block's rows with the weights, rounded and scaled. -/
abbrev product (r : Fin 256) : Fin 768 → EReal := Row.product (row x r) (gain g) (weight w) (wscale s)

/-- Row `r` of the product the body computes. -/
theorem product_row (r : Fin 256) : (fun j => k0_pay29 x g w s p (ix2 r j)) = product x g w s r := by
  funext j
  unfold k0_pay29 k0_pay24 k0_pay25 k0_pay26 k0_pay27
  rw [ld_x, ld_g, ld_w, ld_s]
  exact product_apply x g w s r j

/-- The cosines the body computes. -/
theorem cosine_eq : k0_pay32 x g w s p = cosine p := by
  unfold k0_pay32 k0_pay30 k0_pay31
  rw [ld_p]

/-- The sines the body computes. -/
theorem sine_eq : k0_pay33 x g w s p = sine p := by
  unfold k0_pay33 k0_pay30 k0_pay31 k0_pay28
  rw [ld_p]

/-- The block of scales. -/
theorem scales (r : Fin 256) :
    k0_pay12 (F := Ideal) (k0_pay25 x g w s p) (k0_pay26 x g w s p) (k0_pay27 x g w s p) (ix2 r 0) = Row.scale (Row.peak (row x r) (gain g)) := by
  unfold k0_pay25 k0_pay26 k0_pay27
  rw [ld_x, ld_g]
  exact scale_apply x g r

/-- The block of codes. -/
theorem codes (r : Fin 256) (k : Fin 4096) :
    k0_pay13 (F := Ideal) (k0_pay24 x g w s p) (k0_pay25 x g w s p) (k0_pay26 x g w s p) (k0_pay27 x g w s p) (ix2 r k)
      = Row.code (row x r) (gain g) k := by
  unfold k0_pay24 k0_pay25 k0_pay26 k0_pay27
  rw [ld_x, ld_g]
  exact code_apply x g r k

/-- The block of values. -/
theorem values (r : Fin 256) (l : Fin 128) :
    k0_pay5 (F := Ideal) (k0_pay29 x g w s p) (ix2 r l) = Row.head (product x g w s r) 640 (by decide) l := by
  rw [v_apply, product_row]

/-- The block of keys. -/
theorem keys (r : Fin 256) (l : Fin 128) :
    k0_pay4 (F := Ideal) (k0_pay29 x g w s p) (k0_pay32 x g w s p) (k0_pay33 x g w s p) (ix2 r l)
      = Row.rotary (Row.head (product x g w s r) 512 (by decide)) (p (ix2 r 0)) l := by
  rw [cosine_eq, sine_eq, k_apply, product_row]

/-- The block of the first head of the queries. -/
theorem queries0 (r : Fin 256) (l : Fin 128) :
    k0_pay20 (F := Ideal) (k0_pay29 x g w s p) (k0_pay28 x g w s p) count (k0_pay30 x g w s p) (k0_pay31 x g w s p) 0#32 (View.ld p r0_2) (ix2 r l)
      = Row.rotary (Row.head (product x g w s r) 0 (by decide)) (p (ix2 r 0)) l := by
  rw [ld_p, ← product_row x g w s p r]
  exact q0_apply p _ r l

/-- The block of the second head of the queries. -/
theorem queries1 (r : Fin 256) (l : Fin 128) :
    k0_pay1 (F := Ideal) (k0_pay22 (k0_pay29 x g w s p) count (k0_pay30 x g w s p) (k0_pay31 x g w s p) 0#32 (View.ld p r0_2))
        (k0_pay23 (k0_pay29 x g w s p) (k0_pay28 x g w s p) count (k0_pay30 x g w s p) (k0_pay31 x g w s p) 0#32 (View.ld p r0_2)) (ix2 r l)
      = Row.rotary (Row.head (product x g w s r) 128 (by decide)) (p (ix2 r 0)) l := by
  rw [ld_p, ← product_row x g w s p r]
  exact q1_apply p _ r l

/-- The block of the third head of the queries. -/
theorem queries2 (r : Fin 256) (l : Fin 128) :
    k0_pay2 (F := Ideal) (k0_pay29 x g w s p) (k0_pay32 x g w s p) (k0_pay33 x g w s p) (ix2 r l)
      = Row.rotary (Row.head (product x g w s r) 256 (by decide)) (p (ix2 r 0)) l := by
  rw [cosine_eq, sine_eq, q2_apply, product_row]

/-- The block of the fourth head of the queries. -/
theorem queries3 (r : Fin 256) (l : Fin 128) :
    k0_pay3 (F := Ideal) (k0_pay29 x g w s p) (k0_pay32 x g w s p) (k0_pay33 x g w s p) (ix2 r l)
      = Row.rotary (Row.head (product x g w s r) 384 (by decide)) (p (ix2 r 0)) l := by
  rw [cosine_eq, sine_eq, q3_apply, product_row]

/-- A piece of the block of queries: what lies at `z` of a head's piece is the query at the place the piece puts it. -/
theorem piece (o : ℕ) (ho : o + 128 ≤ 512) (hd : 128 ∣ o) (v : S256x128.Idx → EReal)
    (hv : ∀ r l, v (ix2 r l) = Row.rotary (Row.head (product x g w s r) o (by omega)) (p (ix2 r 0)) l)
    (y : S256x512.Idx) (z : S256x128.Idx) (h0 : (y 0).val = (z 0).val) (h1 : (y 1).val = o + (z 1).val) :
    v z = Row.query (product x g w s (y 0)) (p (ix2 (y 0) 0)) (y 1) := by
  idx_vars z
  have e : y 0 = z0 := Fin.ext h0
  rw [e, Row.query_eq _ _ o ho hd z1 (y 1) h1]
  exact hv z0 z1

/-- The block of queries, its four heads side by side. -/
theorem queries (y : S256x512.Idx) : out0_5 x g w s p y = Row.query (product x g w s (y 0)) (p (ix2 (y 0) 0)) (y 1) := by
  canon_tiles z h
  · exact piece x g w s p 384 (by decide) (by decide) _ (queries3 x g w s p) y z h0 h1
  · exact piece x g w s p 256 (by decide) (by decide) _ (queries2 x g w s p) y z h0 h1
  · exact piece x g w s p 128 (by decide) (by decide) _ (queries1 x g w s p) y z h0 h1
  · exact piece x g w s p 0 (by decide) (by decide) _ (queries0 x g w s p) y z h0 (by omega)

end Cert.KernelIdeal.Block

end
-- ==== Proof.Results.lean ====
/-
  The five result arrays as functions of the five input matrices, row by row.
-/
module

public import proofs.«01_k».proof.Proof.Row
public import Idealize.ShloMosaic.Lib.Pointwise

@[expose] public section

noncomputable section

open Idealize.ShloMosaic

namespace Cert.Results

/-- The tokens, one per row. -/
abbrev Tokens := (⟨2, ![24576, 4096]⟩ : Shape).Idx → EReal
/-- The gains of the normalisation, one row. -/
abbrev Gains := (⟨2, ![1, 4096]⟩ : Shape).Idx → EReal
/-- The weights' codes. -/
abbrev Weights := (⟨2, ![4096, 768]⟩ : Shape).Idx → EReal
/-- The weights' scales, one row. -/
abbrev Scales := (⟨2, ![1, 768]⟩ : Shape).Idx → EReal
/-- The tokens' positions, one column. -/
abbrev Positions := (⟨2, ![24576, 1]⟩ : Shape).Idx → BitVec 32

variable (x : Tokens) (g : Gains) (w : Weights) (s : Scales) (p : Positions)

/-- Row `r` of the tokens. -/
abbrev row (r : Fin 24576) : Fin 4096 → EReal := fun k => x (ix2 r k)
/-- The gains as a row. -/
abbrev gain : Fin 4096 → EReal := fun k => g (ix2 0 k)

/-- Row `r` of the product with the weights. -/
def product (r : Fin 24576) : Fin 768 → EReal :=
  Row.product (row x r) (gain g) (fun k j => w (ix2 k j)) (fun j => s (ix2 0 j))

/-- The queries. -/
def queries : (⟨2, ![24576, 512]⟩ : Shape).Idx → EReal := fun i => Row.query (product x g w s (i 0)) (p (ix2 (i 0) 0)) (i 1)

/-- The keys. -/
def keys : (⟨2, ![24576, 128]⟩ : Shape).Idx → EReal :=
  fun i => Row.rotary (Row.head (product x g w s (i 0)) 512 (by decide)) (p (ix2 (i 0) 0)) (i 1)

/-- The values. -/
def values : (⟨2, ![24576, 128]⟩ : Shape).Idx → EReal := fun i => Row.head (product x g w s (i 0)) 640 (by decide) (i 1)

/-- The codes. -/
def codes : (⟨2, ![24576, 4096]⟩ : Shape).Idx → EReal := fun i => Row.code (row x (i 0)) (gain g) (i 1)

/-- The scales. -/
def scales : (⟨2, ![24576, 1]⟩ : Shape).Idx → EReal := fun i => Row.scale (Row.peak (row x (i 0)) (gain g))

end Cert.Results

end
-- ==== Proof.KernelArray.lean ====
/-
  What the kernel's result arrays hold after its 96 grid points: the arrays of Results.lean of its input matrices.
-/
module

public import proofs.«01_k».proof.Proof.Gen.KernelIdeal.Frame
public import proofs.«01_k».proof.Proof.KernelBlock
public import proofs.«01_k».proof.Proof.Results
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The blocks' places: the tokens, the positions and the results advance with the point, the rest stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The row of the matrices that row `r` of point `t`'s blocks is. -/
def place (t : Fin cfg0.N) (r : Fin 256) : Fin 24576 :=
  ⟨t.val * 256 + r.val, by have := lt_of_lt_of_eq t.isLt N_0; omega⟩

/-- The tokens' block at point `t`. -/
theorem tokens_block (c : Dev nD) (t : Fin cfg0.N) (r : Fin 256) (k : Fin 4096) :
    iblk m c 0 t (ix2 r k) = V m c main_v0 (ix2 (place t r) k) := by
  blk_point [iblk, V, idx t, place]

/-- The gains' block at every point. -/
theorem gains_block (c : Dev nD) (t : Fin cfg0.N) (r : Fin 1) (k : Fin 4096) :
    iblk m c 1 t (ix2 r k) = V m c main_v1 (ix2 r k) := by
  blk_point [iblk, V, idx t]

/-- The weights' block at every point. -/
theorem weights_block (c : Dev nD) (t : Fin cfg0.N) (k : Fin 4096) (j : Fin 768) :
    iblk m c 2 t (ix2 k j) = V m c main_arg2 (ix2 k j) := by
  blk_point [iblk, V, idx t]

/-- The weights' scales at every point. -/
theorem wscales_block (c : Dev nD) (t : Fin cfg0.N) (r : Fin 1) (j : Fin 768) :
    iblk m c 3 t (ix2 r j) = V m c main_v2 (ix2 r j) := by
  blk_point [iblk, V, idx t]

/-- The positions' block at point `t`. -/
theorem positions_block (c : Dev nD) (t : Fin cfg0.N) (r : Fin 256) (k : Fin 1) :
    iblk m c 4 t (ix2 r k) = V m c main_v3 (ix2 (place t r) k) := by
  blk_point [iblk, V, idx t, place]

/-- The tokens' block at point `t`, a row. -/
theorem row_block (c : Dev nD) (t : Fin cfg0.N) (r : Fin 256) :
    Body.row (iblk m c 0 t) r = Results.row (V m c main_v0) (place t r) := funext (tokens_block m c t r)

/-- The gains' block as a row. -/
theorem gain_block (c : Dev nD) (t : Fin cfg0.N) : Body.gain (iblk m c 1 t) = Results.gain (V m c main_v1) :=
  funext (gains_block m c t 0)

/-- The rows of the product at point `t`. -/
theorem product_block (c : Dev nD) (t : Fin cfg0.N) (r : Fin 256) :
    Block.product (iblk m c 0 t) (iblk m c 1 t) (iblk m c 2 t) (iblk m c 3 t) r
      = Results.product (V m c main_v0) (V m c main_v1) (V m c main_arg2) (V m c main_v2) (place t r) := by
  have e2 : Body.weight (iblk m c 2 t) = fun k j => V m c main_arg2 (ix2 k j) := funext fun k => funext (weights_block m c t k)
  have e3 : Body.wscale (iblk m c 3 t) = fun j => V m c main_v2 (ix2 0 j) := funext (wscales_block m c t 0)
  unfold Block.product Results.product
  rw [row_block, gain_block, e2, e3]

/-! ## What a point leaves in each result's block -/

/-- The queries. -/
theorem queries_point (c : Dev nD) (t : Fin cfg0.N) (y : S256x512.Idx) :
    out0_5 (iblk m c 0 t) (iblk m c 1 t) (iblk m c 2 t) (iblk m c 3 t) (iblk m c 4 t) y
      = Results.queries (V m c main_v0) (V m c main_v1) (V m c main_arg2) (V m c main_v2) (V m c main_v3) (ix2 (place t (y 0)) (y 1)) := by
  idx_vars y
  have e : iblk m c 4 t (ix2 y0 0) = V m c main_v3 (ix2 (place t y0) 0) := positions_block m c t y0 0
  refine (Block.queries ..).trans ?_
  show Row.query (Block.product (iblk m c 0 t) (iblk m c 1 t) (iblk m c 2 t) (iblk m c 3 t) y0) (iblk m c 4 t (ix2 y0 0)) y1 = _
  rw [product_block, e]
  rfl

/-- The keys. -/
theorem keys_point (c : Dev nD) (t : Fin cfg0.N) (y : S256x128.Idx) :
    k0_pay4 (F := Ideal) (k0_pay29 (iblk m c 0 t) (iblk m c 1 t) (iblk m c 2 t) (iblk m c 3 t) (iblk m c 4 t))
      (k0_pay32 (iblk m c 0 t) (iblk m c 1 t) (iblk m c 2 t) (iblk m c 3 t) (iblk m c 4 t))
      (k0_pay33 (iblk m c 0 t) (iblk m c 1 t) (iblk m c 2 t) (iblk m c 3 t) (iblk m c 4 t)) y
      = Results.keys (V m c main_v0) (V m c main_v1) (V m c main_arg2) (V m c main_v2) (V m c main_v3) (ix2 (place t (y 0)) (y 1)) := by
  idx_vars y
  have e : iblk m c 4 t (ix2 y0 0) = V m c main_v3 (ix2 (place t y0) 0) := positions_block m c t y0 0
  rw [Block.keys, product_block, e]
  rfl

/-- The values. -/
theorem values_point (c : Dev nD) (t : Fin cfg0.N) (y : S256x128.Idx) :
    k0_pay5 (F := Ideal) (k0_pay29 (iblk m c 0 t) (iblk m c 1 t) (iblk m c 2 t) (iblk m c 3 t) (iblk m c 4 t)) y
      = Results.values (V m c main_v0) (V m c main_v1) (V m c main_arg2) (V m c main_v2) (ix2 (place t (y 0)) (y 1)) := by
  idx_vars y
  rw [Block.values, product_block]
  rfl

/-- The codes. -/
theorem codes_point (c : Dev nD) (t : Fin cfg0.N) (y : S256x4096.Idx) :
    k0_pay13 (F := Ideal) (k0_pay24 (iblk m c 0 t) (iblk m c 1 t) (iblk m c 2 t) (iblk m c 3 t) (iblk m c 4 t))
      (k0_pay25 (iblk m c 0 t) (iblk m c 1 t) (iblk m c 2 t) (iblk m c 3 t) (iblk m c 4 t))
      (k0_pay26 (iblk m c 0 t) (iblk m c 1 t) (iblk m c 2 t) (iblk m c 3 t) (iblk m c 4 t))
      (k0_pay27 (iblk m c 0 t) (iblk m c 1 t) (iblk m c 2 t) (iblk m c 3 t) (iblk m c 4 t)) y
      = Results.codes (V m c main_v0) (V m c main_v1) (ix2 (place t (y 0)) (y 1)) := by
  idx_vars y
  rw [Block.codes, row_block, gain_block]
  rfl

/-- The scales. -/
theorem scales_point (c : Dev nD) (t : Fin cfg0.N) (y : S256x1.Idx) :
    k0_pay12 (F := Ideal) (k0_pay25 (iblk m c 0 t) (iblk m c 1 t) (iblk m c 2 t) (iblk m c 3 t) (iblk m c 4 t))
      (k0_pay26 (iblk m c 0 t) (iblk m c 1 t) (iblk m c 2 t) (iblk m c 3 t) (iblk m c 4 t))
      (k0_pay27 (iblk m c 0 t) (iblk m c 1 t) (iblk m c 2 t) (iblk m c 3 t) (iblk m c 4 t)) y
      = Results.scales (V m c main_v0) (V m c main_v1) (ix2 (place t (y 0)) (y 1)) := by
  idx_vars y
  obtain rfl : y1 = 0 := Subsingleton.elim _ _
  rw [Block.scales, row_block, gain_block]
  rfl

/-! ## The places the points' blocks fill -/

/-- Where the queries' block at point `t` lies. -/
theorem queries_place (t : Fin cfg0.N) (y : S256x512.Idx) :
    ((View.whole main_v4_0).slice (win0_5.rect t)).emb y = ix2 (place t (y 0)) (y 1) := by
  blk_ext
  · rw [(idx t).2.2.2.2.2.1]; rfl
  · rw [(idx t).2.2.2.2.2.1]; show 0 * 512 + (y 1).val = (y 1).val; omega

/-- Where the keys' block at point `t` lies. -/
theorem keys_place (t : Fin cfg0.N) (y : S256x128.Idx) :
    ((View.whole main_v4_1).slice (win0_6.rect t)).emb y = ix2 (place t (y 0)) (y 1) := by
  blk_ext
  · rw [(idx t).2.2.2.2.2.2.1]; rfl
  · rw [(idx t).2.2.2.2.2.2.1]; show 0 * 128 + (y 1).val = (y 1).val; omega

/-- Where the values' block at point `t` lies. -/
theorem values_place (t : Fin cfg0.N) (y : S256x128.Idx) :
    ((View.whole main_v4_2).slice (win0_7.rect t)).emb y = ix2 (place t (y 0)) (y 1) := by
  blk_ext
  · rw [(idx t).2.2.2.2.2.2.2.1]; rfl
  · rw [(idx t).2.2.2.2.2.2.2.1]; show 0 * 128 + (y 1).val = (y 1).val; omega

/-- Where the codes' block at point `t` lies. -/
theorem codes_place (t : Fin cfg0.N) (y : S256x4096.Idx) :
    ((View.whole main_v4_3).slice (win0_8.rect t)).emb y = ix2 (place t (y 0)) (y 1) := by
  blk_ext
  · rw [(idx t).2.2.2.2.2.2.2.2.1]; rfl
  · rw [(idx t).2.2.2.2.2.2.2.2.1]; show 0 * 4096 + (y 1).val = (y 1).val; omega

/-- Where the scales' block at point `t` lies. -/
theorem scales_place (t : Fin cfg0.N) (y : S256x1.Idx) :
    ((View.whole main_v4_4).slice (win0_9.rect t)).emb y = ix2 (place t (y 0)) (y 1) := by
  blk_ext
  · rw [(idx t).2.2.2.2.2.2.2.2.2]; rfl
  · rw [(idx t).2.2.2.2.2.2.2.2.2]; rfl

/-! ## The arrays -/

/-- The array of queries. -/
theorem queries_final (c : Dev nD) : (dats m 0 c).arrAt 5 (cfgs 0).N
    = Results.queries (V m c main_v0) (V m c main_v1) (V m c main_arg2) (V m c main_v2) (V m c main_v3) := by
  refine (dats m 0 c).arrAt_eq_of_covers 5 _ (by decide +kernel) fun t _ y => ?_
  blk_simp; rw [after0_5]
  exact (queries_point m c t y).trans (congrArg _ (queries_place t y).symm)

/-- The array of keys. -/
theorem keys_final (c : Dev nD) : (dats m 0 c).arrAt 6 (cfgs 0).N
    = Results.keys (V m c main_v0) (V m c main_v1) (V m c main_arg2) (V m c main_v2) (V m c main_v3) := by
  refine (dats m 0 c).arrAt_eq_of_covers 6 _ (by decide +kernel) fun t _ y => ?_
  blk_simp; rw [after0_6]; frame_out
  exact (keys_point m c t y).trans (congrArg _ (keys_place t y).symm)

/-- The array of values. -/
theorem values_final (c : Dev nD) : (dats m 0 c).arrAt 7 (cfgs 0).N
    = Results.values (V m c main_v0) (V m c main_v1) (V m c main_arg2) (V m c main_v2) := by
  refine (dats m 0 c).arrAt_eq_of_covers 7 _ (by decide +kernel) fun t _ y => ?_
  blk_simp; rw [after0_7]; frame_out
  exact (values_point m c t y).trans (congrArg _ (values_place t y).symm)

/-- The array of codes. -/
theorem codes_final (c : Dev nD) : (dats m 0 c).arrAt 8 (cfgs 0).N
    = Results.codes (V m c main_v0) (V m c main_v1) := by
  refine (dats m 0 c).arrAt_eq_of_covers 8 _ (by decide +kernel) fun t _ y => ?_
  blk_simp; rw [after0_8]; frame_out
  exact (codes_point m c t y).trans (congrArg _ (codes_place t y).symm)

/-- The array of scales. -/
theorem scales_final (c : Dev nD) : (dats m 0 c).arrAt 9 (cfgs 0).N
    = Results.scales (V m c main_v0) (V m c main_v1) := by
  refine (dats m 0 c).arrAt_eq_of_covers 9 _ (by decide +kernel) fun t _ y => ?_
  blk_simp; rw [after0_9]; frame_out
  exact (scales_point m c t y).trans (congrArg _ (scales_place t y).symm)

/-! ## The inputs, as the arguments -/

/-- The tokens are the first argument, its batch and place axes made one. -/
theorem tokens_entry (c : Dev nD) :
    V m c main_v0 = shapeCast S24576x4096 (m ((c.tc : Thread nD τ).loc main_arg0)) shapeCasts_S3x8192x4096_S24576x4096 := by
  entry_read; rfl

/-- The gains are the second argument as one row. -/
theorem gains_entry (c : Dev nD) :
    V m c main_v1 = shapeCast S1x4096 (m ((c.tc : Thread nD τ).loc main_arg1)) shapeCasts_S4096_S1x4096 := by
  entry_read; rfl

/-- The weights' scales are the fourth argument as one row. -/
theorem wscales_entry (c : Dev nD) :
    V m c main_v2 = shapeCast S1x768 (m ((c.tc : Thread nD τ).loc main_arg3)) shapeCasts_S768_S1x768 := by
  entry_read; rfl

/-- The positions are the fifth argument as one column. -/
theorem positions_entry (c : Dev nD) :
    V m c main_v3 = shapeCast S24576x1 (m ((c.tc : Thread nD τ).loc main_arg4)) shapeCasts_S3x8192_S24576x1 := by
  entry_read; rfl

/-! ## The run -/

/-- Every run ends with the five results in the result arrays and the arguments as they were. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v4_0) = Results.queries (V m c main_v0) (V m c main_v1) (V m c main_arg2) (V m c main_v2) (V m c main_v3)
    ∧ r.2.mem ((c.tc : Thread nD τ).loc main_v4_1) = Results.keys (V m c main_v0) (V m c main_v1) (V m c main_arg2) (V m c main_v2) (V m c main_v3)
    ∧ r.2.mem ((c.tc : Thread nD τ).loc main_v4_2) = Results.values (V m c main_v0) (V m c main_v1) (V m c main_arg2) (V m c main_v2)
    ∧ r.2.mem ((c.tc : Thread nD τ).loc main_v4_3) = Results.codes (V m c main_v0) (V m c main_v1)
    ∧ r.2.mem ((c.tc : Thread nD τ).loc main_v4_4) = Results.scales (V m c main_v0) (V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).1 5).trans (queries_final m c), ((h.1 c).1 6).trans (keys_final m c),
    ((h.1 c).1 7).trans (values_final m c), ((h.1 c).1 8).trans (codes_final m c), ((h.1 c).1 9).trans (scales_final m c), h.2 c⟩)
    (θ_run_and (run_main m g) (unchanged m g))

end Cert.KernelIdeal.Value

end
-- ==== Proof.ReferenceBody.lean ====
/-
  The reference's values, one row at a time: at row `r` each of the body's arrays is the function of Row.lean of the input arrays'
  row `r`.
-/
module

public import proofs.«01_k».proof.Proof.Gen.ReferenceIdeal.Skeleton
public import proofs.«01_k».proof.Proof.Row
public import proofs.«01_k».proof.Proof.RowReduce
public import Idealize.ShloMosaic.Lib.Pointwise

@[expose] public section

set_option maxRecDepth 16384

noncomputable section

open Idealize.ShloMosaic

namespace Cert.ReferenceIdeal.Body

open Cert.ReferenceIdeal Cert.ReferenceIdeal.Gen

variable (x : Vec Ideal S24576x4096 .bf16) (g : Vec Ideal S1x4096 .f32) (w : Vec Ideal S4096x768 .fp8e4m3)
  (s : Vec Ideal S1x768 .f32) (p : Vec Ideal S24576x1 .i32)

/-- Row `r` of the input array. -/
abbrev row (r : Fin 24576) (k : Fin 4096) : EReal := x (ix2 r k)
/-- The gains, as a row. -/
abbrev gain (k : Fin 4096) : EReal := g (ix2 0 k)
/-- The weights' codes. -/
abbrev weight (k : Fin 4096) (j : Fin 768) : EReal := w (ix2 k j)
/-- The weights' scales, as a row. -/
abbrev wscale (j : Fin 768) : EReal := s (ix2 0 j)

/-- To find what `a` is, give it a name and read it. -/
theorem read {α : Type} {a b : α} (h : ∀ z, a = z → b = z) : a = b := (h a rfl).symm

/-- The normalised array at row `r`. -/
theorem normal_apply (r : Fin 24576) (k : Fin 4096) :
    k0_pay3 (F := Ideal) x g (ix2 r k) = Row.normal (row x r) (gain g) k := by
  pointwise [k0_pay3]
  rfl

/-- A column read at row `r`. -/
theorem column_apply (M : FVec Ideal S24576 .f32) (r : Fin 24576) :
    shapeCast S24576x1 M shapeCasts_S24576_S24576x1 (ix2 r 0) = M (ix1 r) := by
  pointwise

/-- The largest magnitude over 448 at row `r`, from the column of largest magnitudes. -/
theorem peak_of (M : FVec Ideal S24576 .f32) (r : Fin 24576) :
    select (cmpf .olt (mulf (shapeCast S24576x1 M shapeCasts_S24576_S24576x1) (broadcast S24576x1 (Scalar.ofBits (F := Ideal) .f32 0x3B124925#32)))
        (broadcast S24576x1 (Scalar.ofBits (F := Ideal) .f32 0x00800000#32)))
      (broadcast S24576x1 (Scalar.ofBits (F := Ideal) .f32 0x00000000#32))
      (mulf (shapeCast S24576x1 M shapeCasts_S24576_S24576x1) (broadcast S24576x1 (Scalar.ofBits (F := Ideal) .f32 0x3B124925#32))) (ix2 r 0)
      = Row.flush (M (ix1 r) * Ideal.ofBits .f32 0x3B124925#32) := by
  unfold Row.flush
  refine read fun z hz => ?_
  pointwise at hz
  exact hz

/-- The largest magnitude at row `r`. -/
theorem largest_apply (r : Fin 24576) :
    multiReduction (F := Ideal) .maximumf [1] S24576 (absf (k0_pay3 x g)) 0xFF800000#32
      reduces_S24576x4096_S24576 (.inl rfl) rfl (ix1 r) = Row.largest (Row.normal (row x r) (gain g)) := by
  refine (Row.max_apply (absf (k0_pay3 x g)) _ _ _ _ r).trans ?_
  unfold Row.largest
  exact Finset.fold_congr fun k _ => congrArg (FloatOps.absf (F := Ideal) (φ := .f32)) (normal_apply x g r k)

/-- The largest magnitude over 448 at row `r`, numbers below the least normal one counted as zero. -/
theorem peak_apply (r : Fin 24576) :
    k0_pay4 (F := Ideal) x g (ix2 r 0) = Row.flush (Row.peak (row x r) (gain g)) :=
  (peak_of _ r).trans (congrArg (fun y => Row.flush (y * Ideal.ofBits .f32 0x3B124925#32)) (largest_apply x g r))

/-- One entry of the table of listed powers that are above row `r`'s value, from the column of values. -/
theorem entry_of (y : FVec Ideal S24576x1 .f32) (r : Fin 24576) (k : Fin 253) :
    select (cmpf .olt (broadcastTo S24576x253 y broadcasts_S24576x1_S24576x253)
        (broadcastTo S24576x253 (exp2 (subf (sitofp (F := Ideal) .f32 (iota .tc S1x253 32 [1] iota_S1x253_d1_w32))
          (broadcast S1x253 (Scalar.ofBits (F := Ideal) .f32 0x42FA0000#32)))) broadcasts_S1x253_S24576x253))
      (broadcastTo S24576x253 (shapeCast S1x253 (exp2 (subf (sitofp (F := Ideal) .f32 (iota .tc S1x253 32 [1] iota_S1x253_d1_w32))
          (broadcast S1x253 (Scalar.ofBits (F := Ideal) .f32 0x42FA0000#32)))) shapeCasts_S1x253_S1x253) broadcasts_S1x253_S24576x253)
      (broadcast S24576x253 (Scalar.ofBits (F := Ideal) .f32 0x7F800000#32)) (ix2 r k)
      = if y (ix2 r 0) < Row.power k then Row.power k else Ideal.ofBits .f32 0x7F800000#32 := by
  unfold Row.power
  refine read fun z hz => ?_
  pointwise at hz
  exact hz

/-- The least listed power of two above the largest magnitude at row `r`. -/
theorem above_apply (r : Fin 24576) :
    k0_pay5 (F := Ideal) x g (ix2 r 0) = Row.above (Row.flush (Row.peak (row x r) (gain g))) := by
  rw [← peak_apply]
  unfold k0_pay5
  generalize k0_pay4 (F := Ideal) x g = y
  refine (column_apply _ r).trans ((Row.min_apply _ _ _ _ _ r).trans ?_)
  unfold Row.above
  exact Finset.fold_congr fun k _ => entry_of y r k

/-- The scale at row `r`, from the columns it is chosen from. -/
theorem scale_of (a y : FVec Ideal S24576x1 .f32) (r : Fin 24576) :
    k0_pay8 (F := Ideal) a (cmpf .oeq y (broadcast S24576x1 (Scalar.ofBits (F := Ideal) .f32 0x00000000#32)))
        (cmpf .oeq y (broadcast S24576x1 (Scalar.ofBits (F := Ideal) .f32 0x7F800000#32))) (ix2 r 0)
      = Scalar.select (IntOp.ori (BitVec.ofBool (decide (y (ix2 r 0) = 0)))
          (BitVec.ofBool (decide (y (ix2 r 0) = Ideal.ofBits .f32 0x7F800000#32)))) 1 (a (ix2 r 0)) := by
  refine read fun z hz => ?_
  pointwise [k0_pay8] at hz
  exact hz

/-- The scale at row `r`. -/
theorem scale_apply (r : Fin 24576) :
    k0_pay8 (F := Ideal) (k0_pay5 x g) (k0_pay6 x g) (k0_pay7 x g) (ix2 r 0) = Row.scale (Row.peak (row x r) (gain g)) := by
  refine (scale_of (k0_pay5 x g) (k0_pay4 x g) r).trans ?_
  rw [above_apply, peak_apply, Row.scale]

/-- The codes at row `r`, from the normalised array and the scales. -/
theorem code_of (y : FVec Ideal S24576x4096 .f32) (a : FVec Ideal S24576x1 .f32) (b c : IVec S24576x1 1) (r : Fin 24576) (k : Fin 4096) :
    k0_pay9 (F := Ideal) y a b c (ix2 r k)
      = min (Ideal.ofBits .f32 0x43E00000#32) (max (Ideal.ofBits .f32 0xC3E00000#32)
          (y (ix2 r k) * Row.flush (Ideal.div 1 (k0_pay8 (F := Ideal) a b c (ix2 r 0))))) := by
  unfold Row.flush
  refine read fun z hz => ?_
  pointwise [k0_pay9] at hz
  exact hz

/-- The codes at row `r`. -/
theorem code_apply (r : Fin 24576) (k : Fin 4096) :
    k0_pay9 (F := Ideal) (k0_pay3 x g) (k0_pay5 x g) (k0_pay6 x g) (k0_pay7 x g) (ix2 r k) = Row.code (row x r) (gain g) k := by
  refine (code_of _ _ _ _ r k).trans ?_
  rw [scale_apply, normal_apply, Row.code, Row.inverse]

/-- The product at row `r`. -/
theorem product_apply (r : Fin 24576) (j : Fin 768) :
    k0_pay10 (F := Ideal) (k0_pay3 x g) (k0_pay5 x g) (k0_pay6 x g) (k0_pay7 x g) w s (ix2 r j)
      = Row.product (row x r) (gain g) (weight w) (wscale s) j := by
  pointwise [k0_pay10]
  simp only [scale_apply, code_apply]
  rfl

/-- The angles at row `r`: the 64 frequencies, twice. -/
theorem angle_apply (r : Fin 24576) (l : Fin 128) :
    k0_pay12 (F := Ideal) k0_pay11 p (ix2 r l) = Row.angle (p (ix2 r 0)) (l.val % 64) := by
  pointwise [k0_pay12, k0_pay11]
  by_cases h : l.val < 64
  · rw [dif_pos h, Nat.mod_eq_of_lt h]; rfl
  · rw [dif_neg h, Nat.mod_eq_sub_mod (by omega), Nat.mod_eq_of_lt (by omega)]; rfl

/-- The values are the product's lanes from 640 on. -/
theorem v_apply (t : FVec Ideal S24576x768 .f32) (r : Fin 24576) (l : Fin 128) :
    k0_pay2 (F := Ideal) t (ix2 r l) = Row.head (fun j => t (ix2 r j)) 640 (by decide) l := by
  pointwise [k0_pay2]
  rfl

/-- One head's lanes `u` turned: the lanes times the cosines `c`, plus the two halves exchanged, the first negated, times the
    sines `s`. -/
def turned (u c s : FVec Ideal S24576x128 .f32) : FVec Ideal S24576x128 .f32 :=
  addf (mulf u c) (mulf (concatenate S24576x128 1
    [⟨S24576x64, subf (broadcast S24576x64 (Scalar.ofBits (F := Ideal) .f32 0x00000000#32))
        (extractStridedSlice S24576x64 ![0, 64] u slices_S24576x128_o0_64_S24576x64)⟩,
      ⟨S24576x64, extractStridedSlice S24576x64 ![0, 0] u slices_S24576x128_o0_0_S24576x64⟩]
    concatenates_S24576x64_S24576x64_S24576x128_d1) s)

/-- One head turned, at row `r`. -/
theorem turned_apply (u : FVec Ideal S24576x128 .f32) (r : Fin 24576) (l : Fin 128) :
    turned u (k0_pay13 k0_pay11 p) (k0_pay14 k0_pay11 p) (ix2 r l)
      = Row.rotary (fun l => u (ix2 r l)) (p (ix2 r 0)) l := by
  refine read fun z hz => ?_
  pointwise [turned, k0_pay13, k0_pay14] at hz
  simp only [angle_apply] at hz
  rw [← hz]
  unfold Row.rotary
  by_cases h : l.val < 64
  · rw [dif_pos h, if_pos h]
    have e : (⟨(l.val + 64) % 128, Nat.mod_lt _ (by decide)⟩ : Fin 128) = ⟨64 + l.val, by omega⟩ := by
      ext; simp only; omega
    rw [e]
  · rw [dif_neg h, if_neg h]
    have e : (⟨(l.val + 64) % 128, Nat.mod_lt _ (by decide)⟩ : Fin 128) = ⟨l.val - 64, by omega⟩ := by
      ext; simp only; omega
    rw [e]

/-- A head cut out of the product, at row `r`. -/
theorem cut_apply (t : FVec Ideal S24576x768 .f32) (o : ℕ) (ho : o + 128 ≤ 768) (hs : S24576x768.Slices ![0, o] S24576x128)
    (r : Fin 24576) (l : Fin 128) :
    extractStridedSlice S24576x128 ![0, o] t hs (ix2 r l) = Row.head (fun j => t (ix2 r j)) o ho l := by
  pointwise [Row.head]

/-- A head of the product turned, at row `r`. -/
theorem head_apply (t : FVec Ideal S24576x768 .f32) (o : ℕ) (hs : S24576x768.Slices ![0, o] S24576x128) (ho : o + 128 ≤ 768)
    (r : Fin 24576) (l : Fin 128) :
    turned (extractStridedSlice S24576x128 ![0, o] t hs) (k0_pay13 k0_pay11 p) (k0_pay14 k0_pay11 p) (ix2 r l)
      = Row.rotary (Row.head (fun j => t (ix2 r j)) o ho) (p (ix2 r 0)) l :=
  (turned_apply p _ r l).trans (congrArg (fun f => Row.rotary f (p (ix2 r 0)) l) (funext fun l => cut_apply t o ho hs r l))

/-- The turned head is the key head of the product. -/
theorem k_apply (t : FVec Ideal S24576x768 .f32) (r : Fin 24576) (l : Fin 128) :
    k0_pay1 (F := Ideal) (k0_pay14 k0_pay11 p) (k0_pay17 t k0_pay11 p) (k0_pay18 t) (k0_pay19 t) k0_pay20 (ix2 r l)
      = Row.rotary (Row.head (fun j => t (ix2 r j)) 512 (by decide)) (p (ix2 r 0)) l := by
  exact head_apply p t 512 slices_S24576x768_o0_512_S24576x128 (by decide) r l

/-- Four arrays of 128 lanes next to each other, read at a lane. -/
theorem four_apply (a b c d : FVec Ideal S24576x128 .f32) (r : Fin 24576) (j : Fin 512) :
    concatenate S24576x512 1 [⟨S24576x128, a⟩, ⟨S24576x128, b⟩, ⟨S24576x128, c⟩, ⟨S24576x128, d⟩]
        concatenates_S24576x128_S24576x128_S24576x128_S24576x128_S24576x512_d1 (ix2 r j)
      = if h0 : j.val < 128 then a (ix2 r ⟨j.val, h0⟩)
        else if h1 : j.val < 256 then b (ix2 r ⟨j.val - 128, by omega⟩)
        else if h2 : j.val < 384 then c (ix2 r ⟨j.val - 256, by omega⟩)
        else d (ix2 r ⟨j.val - 384, by omega⟩) := by
  refine read fun z hz => ?_
  pointwise at hz
  rw [← hz]
  split_ifs <;> first
    | rfl
    | (exfalso; omega)
    | exact absurd rfl ‹_›
    | exact congrArg (fun i => c (ix2 r i)) (Fin.ext (by simp only; omega))
    | exact congrArg (fun i => d (ix2 r i)) (Fin.ext (by simp only; omega))

/-- The queries are the four turned heads next to each other. -/
theorem q_apply (t : FVec Ideal S24576x768 .f32) (r : Fin 24576) (j : Fin 512) :
    k0_pay15 (F := Ideal) t k0_pay11 p (ix2 r j) = Row.query (fun j => t (ix2 r j)) (p (ix2 r 0)) j := by
  refine (four_apply _ _ _ _ r j).trans ?_
  split_ifs with h0 h1 h2
  · exact (head_apply p t 0 _ (by decide) r _).trans (Row.query_eq _ _ 0 (by decide) (by decide) _ j (by simp only; omega)).symm
  · exact (head_apply p t 128 _ (by decide) r _).trans (Row.query_eq _ _ 128 (by decide) (by decide) _ j (by simp only; omega)).symm
  · exact (head_apply p t 256 _ (by decide) r _).trans (Row.query_eq _ _ 256 (by decide) (by decide) _ j (by simp only; omega)).symm
  · exact (head_apply p t 384 _ (by decide) r _).trans (Row.query_eq _ _ 384 (by decide) (by decide) _ j (by simp only; omega)).symm

end Cert.ReferenceIdeal.Body

end
-- ==== Proof.ReferenceArray.lean ====
/-
  What the reference's result arrays hold after its one call: the arrays of Results.lean of its input matrices.
-/
module

public import proofs.«01_k».proof.Proof.Gen.ReferenceIdeal.Frame
public import proofs.«01_k».proof.Proof.ReferenceBody
public import proofs.«01_k».proof.Proof.Results
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

section Body

variable (x : Vec Ideal S24576x4096 .bf16) (g : Vec Ideal S1x4096 .f32) (w : Vec Ideal S4096x768 .fp8e4m3) (s : Vec Ideal S1x768 .f32)
  (p : Vec Ideal S24576x1 .i32)

/-! ## A load of a whole array is the array -/

theorem ld_x : View.ld x r0_0 = x := View.ld_unit_zero (by decide) _ x
theorem ld_g : View.ld g r0_1 = g := View.ld_unit_zero (by decide) _ g
theorem ld_w : View.ld w r0_3 = w := View.ld_unit_zero (by decide) _ w
theorem ld_s : View.ld s r0_4 = s := View.ld_unit_zero (by decide) _ s

/-! ## What the body computes -/

/-- Row `r` of the product the body computes. -/
theorem product_row (r : Fin 24576) : (fun j => k0_pay25 x g w s p (ix2 r j)) = Results.product x g w s r := by
  funext j
  unfold k0_pay25 k0_pay24 k0_pay23 k0_pay22 k0_pay21
  rw [ld_x, ld_g, ld_w, ld_s]
  exact Body.product_apply x g w s r j

/-- The queries. -/
theorem queries (y : S24576x512.Idx) :
    k0_pay15 (F := Ideal) (k0_pay25 x g w s p) (k0_pay26 x g w s p) p y = Results.queries x g w s p y := by
  idx_vars y
  unfold k0_pay26
  refine (Body.q_apply p _ y0 y1).trans ?_
  rw [product_row]
  rfl

/-- The keys. -/
theorem keys (y : S24576x128.Idx) :
    k0_pay1 (F := Ideal) (k0_pay14 (k0_pay26 x g w s p) p) (k0_pay17 (k0_pay25 x g w s p) (k0_pay26 x g w s p) p)
      (k0_pay18 (k0_pay25 x g w s p)) (k0_pay19 (k0_pay25 x g w s p)) k0_pay20 y = Results.keys x g w s p y := by
  idx_vars y
  unfold k0_pay26
  refine (Body.k_apply p _ y0 y1).trans ?_
  rw [product_row]
  rfl

/-- The values. -/
theorem values (y : S24576x128.Idx) : k0_pay2 (F := Ideal) (k0_pay25 x g w s p) y = Results.values x g w s y := by
  idx_vars y
  refine (Body.v_apply _ y0 y1).trans ?_
  rw [product_row]
  rfl

/-- The codes. -/
theorem codes (y : S24576x4096.Idx) :
    k0_pay9 (F := Ideal) (k0_pay21 x g w s p) (k0_pay22 x g w s p) (k0_pay23 x g w s p) (k0_pay24 x g w s p) y = Results.codes x g y := by
  idx_vars y
  unfold k0_pay24 k0_pay23 k0_pay22 k0_pay21
  rw [ld_x, ld_g]
  exact Body.code_apply x g y0 y1

/-- The scales. -/
theorem scales (y : S24576x1.Idx) :
    k0_pay8 (F := Ideal) (k0_pay22 x g w s p) (k0_pay23 x g w s p) (k0_pay24 x g w s p) y = Results.scales x g y := by
  idx_vars y
  obtain rfl : y1 = 0 := Subsingleton.elim _ _
  unfold k0_pay24 k0_pay23 k0_pay22
  rw [ld_x, ld_g]
  exact Body.scale_apply x g y0

end Body

variable (m : (ℓ : Loc nD τ sig) → Buf (Elt Ideal) ℓ)

/-! ## Every input's block is its whole array -/

/-- Every input's block lies at the origin. -/
theorem idx : ∀ t : Fin cfg0.N, win0_0.index t = ![0, 0] ∧ win0_1.index t = ![0, 0] ∧ win0_2.index t = ![0, 0]
    ∧ win0_3.index t = ![0, 0] ∧ win0_4.index t = ![0, 0] := (by decide +kernel : ∀ t : Fin grid0.N, _)

/-- The tokens. -/
theorem tokens_block (c : Dev nD) (t : Fin cfg0.N) : iblk m c 0 t = V m c main_v0 := by
  refine funext fun (y : S24576x4096.Idx) => ?_
  idx_vars y
  blk_point [iblk, V, idx t]

/-- The gains. -/
theorem gains_block (c : Dev nD) (t : Fin cfg0.N) : iblk m c 1 t = V m c main_v1 := by
  refine funext fun (y : S1x4096.Idx) => ?_
  idx_vars y
  blk_point [iblk, V, idx t]

/-- The weights. -/
theorem weights_block (c : Dev nD) (t : Fin cfg0.N) : iblk m c 2 t = V m c main_arg2 := by
  refine funext fun (y : S4096x768.Idx) => ?_
  idx_vars y
  blk_point [iblk, V, idx t]

/-- The weights' scales. -/
theorem wscales_block (c : Dev nD) (t : Fin cfg0.N) : iblk m c 3 t = V m c main_v2 := by
  refine funext fun (y : S1x768.Idx) => ?_
  idx_vars y
  blk_point [iblk, V, idx t]

/-- The positions. -/
theorem positions_block (c : Dev nD) (t : Fin cfg0.N) : iblk m c 4 t = V m c main_v3 := by
  refine funext fun (y : S24576x1.Idx) => ?_
  idx_vars y
  blk_point [iblk, V, idx t]

/-! ## The arrays -/

/-- The array of queries. -/
theorem queries_final (c : Dev nD) : (dats m 0 c).arrAt 5 (cfgs 0).N
    = Results.queries (V m c main_v0) (V m c main_v1) (V m c main_arg2) (V m c main_v2) (V m c main_v3) := by
  refine (dats m 0 c).arrAt_eq_of_after_last 5 t0_0 (by decide +kernel) _ fun j => ?_
  blk_simp; rw [after0_5]; frame_out
  rw [tokens_block, gains_block, weights_block, wscales_block, positions_block]
  exact queries _ _ _ _ _ j

/-- The array of keys. -/
theorem keys_final (c : Dev nD) : (dats m 0 c).arrAt 6 (cfgs 0).N
    = Results.keys (V m c main_v0) (V m c main_v1) (V m c main_arg2) (V m c main_v2) (V m c main_v3) := by
  refine (dats m 0 c).arrAt_eq_of_after_last 6 t0_0 (by decide +kernel) _ fun j => ?_
  blk_simp; rw [after0_6]; frame_out
  rw [tokens_block, gains_block, weights_block, wscales_block, positions_block]
  exact keys _ _ _ _ _ j

/-- The array of values. -/
theorem values_final (c : Dev nD) : (dats m 0 c).arrAt 7 (cfgs 0).N
    = Results.values (V m c main_v0) (V m c main_v1) (V m c main_arg2) (V m c main_v2) := by
  refine (dats m 0 c).arrAt_eq_of_after_last 7 t0_0 (by decide +kernel) _ fun j => ?_
  blk_simp; rw [after0_7]; frame_out
  rw [tokens_block, gains_block, weights_block, wscales_block, positions_block]
  exact values _ _ _ _ _ j

/-- The array of codes. -/
theorem codes_final (c : Dev nD) : (dats m 0 c).arrAt 8 (cfgs 0).N
    = Results.codes (V m c main_v0) (V m c main_v1) := by
  refine (dats m 0 c).arrAt_eq_of_after_last 8 t0_0 (by decide +kernel) _ fun j => ?_
  blk_simp; rw [after0_8]; frame_out
  rw [tokens_block, gains_block, weights_block, wscales_block, positions_block]
  exact codes _ _ _ _ _ j

/-- The array of scales. -/
theorem scales_final (c : Dev nD) : (dats m 0 c).arrAt 9 (cfgs 0).N
    = Results.scales (V m c main_v0) (V m c main_v1) := by
  refine (dats m 0 c).arrAt_eq_of_after_last 9 t0_0 (by decide +kernel) _ fun j => ?_
  blk_simp; rw [after0_9]; frame_out
  rw [tokens_block, gains_block, weights_block, wscales_block, positions_block]
  exact scales _ _ _ _ _ j

/-! ## The inputs, as the arguments -/

/-- The tokens are the first argument, its batch and place axes made one. -/
theorem tokens_entry (c : Dev nD) :
    V m c main_v0 = shapeCast S24576x4096 (m ((c.tc : Thread nD τ).loc main_arg0)) shapeCasts_S3x8192x4096_S24576x4096 := by
  entry_read; rfl

/-- The gains are the second argument as one row. -/
theorem gains_entry (c : Dev nD) :
    V m c main_v1 = shapeCast S1x4096 (m ((c.tc : Thread nD τ).loc main_arg1)) shapeCasts_S4096_S1x4096 := by
  entry_read; rfl

/-- The weights' scales are the fourth argument as one row. -/
theorem wscales_entry (c : Dev nD) :
    V m c main_v2 = shapeCast S1x768 (m ((c.tc : Thread nD τ).loc main_arg3)) shapeCasts_S768_S1x768 := by
  entry_read; rfl

/-- The positions are the fifth argument as one column. -/
theorem positions_entry (c : Dev nD) :
    V m c main_v3 = shapeCast S24576x1 (m ((c.tc : Thread nD τ).loc main_arg4)) shapeCasts_S3x8192_S24576x1 := by
  entry_read; rfl

/-! ## The run -/

/-- Every run ends with the five results in the result arrays and the arguments as they were. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v4_0) = Results.queries (V m c main_v0) (V m c main_v1) (V m c main_arg2) (V m c main_v2) (V m c main_v3)
    ∧ r.2.mem ((c.tc : Thread nD τ).loc main_v4_1) = Results.keys (V m c main_v0) (V m c main_v1) (V m c main_arg2) (V m c main_v2) (V m c main_v3)
    ∧ r.2.mem ((c.tc : Thread nD τ).loc main_v4_2) = Results.values (V m c main_v0) (V m c main_v1) (V m c main_arg2) (V m c main_v2)
    ∧ r.2.mem ((c.tc : Thread nD τ).loc main_v4_3) = Results.codes (V m c main_v0) (V m c main_v1)
    ∧ r.2.mem ((c.tc : Thread nD τ).loc main_v4_4) = Results.scales (V m c main_v0) (V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).1 5).trans (queries_final m c), ((h.1 c).1 6).trans (keys_final m c),
    ((h.1 c).1 7).trans (values_final m c), ((h.1 c).1 8).trans (codes_final m c), ((h.1 c).1 9).trans (scales_final m c), h.2 c⟩)
    (θ_run_and (run_main m g) (unchanged m g))

end Cert.ReferenceIdeal.Value

end
-- ==== Proof.Equation.lean ====
/-
  The equation: on the same arguments the kernel's five result arrays are the reference's.
-/
module

public import proofs.«01_k».proof.Defs
public import proofs.«01_k».proof.Proof.KernelArray
public import proofs.«01_k».proof.Proof.ReferenceArray
public import Idealize.ShloMosaic.Lib.Claim

@[expose] public section

set_option maxRecDepth 16384

noncomputable section

open Idealize.ShloMosaic Idealize.ShloMosaic.TcCoe Idealize.SL.Sem

namespace Cert.Equation

section Entries

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Both programs read the same tokens. -/
theorem tokens (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.V m' c Cert.ReferenceIdeal.main_v0 : Results.Tokens) = Cert.KernelIdeal.Gen.V m c Cert.KernelIdeal.main_v0 := by
  refine (Cert.ReferenceIdeal.Value.tokens_entry m' c).trans (Eq.trans ?_ (Cert.KernelIdeal.Value.tokens_entry m c).symm)
  rw [h]

/-- Both programs read the same gains. -/
theorem gains (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_v1 : Results.Gains) = Cert.KernelIdeal.Gen.V m c Cert.KernelIdeal.main_v1 := by
  refine (Cert.ReferenceIdeal.Value.gains_entry m' c).trans (Eq.trans ?_ (Cert.KernelIdeal.Value.gains_entry m c).symm)
  rw [h]

/-- Both programs read the same weights' codes. -/
theorem weights (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.V m' c Cert.ReferenceIdeal.main_arg2 : Results.Weights) = Cert.KernelIdeal.Gen.V m c Cert.KernelIdeal.main_arg2 := by
  exact (Cert.ReferenceIdeal.Gen.V_main_arg2 m' c).trans (h.trans (Cert.KernelIdeal.Gen.V_main_arg2 m c).symm)

/-- Both programs read the same weights' scales. -/
theorem wscales (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Gen.V m' c Cert.ReferenceIdeal.main_v2 : Results.Scales) = Cert.KernelIdeal.Gen.V m c Cert.KernelIdeal.main_v2 := by
  refine (Cert.ReferenceIdeal.Value.wscales_entry m' c).trans (Eq.trans ?_ (Cert.KernelIdeal.Value.wscales_entry m c).symm)
  rw [h]

/-- Both programs read the same positions. -/
theorem positions (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Gen.V m' c Cert.ReferenceIdeal.main_v3 : Results.Positions) = Cert.KernelIdeal.Gen.V m c Cert.KernelIdeal.main_v3 := by
  refine (Cert.ReferenceIdeal.Value.positions_entry m' c).trans (Eq.trans ?_ (Cert.KernelIdeal.Value.positions_entry m c).symm)
  rw [h]

end Entries

/-- From memories that agree on the arguments both programs run, end with equal results and leave the arguments as they were. -/
theorem algebraic : Cert.algebraic_KernelIdeal_ReferenceIdeal := by
  intro m g m' g' _ hagree
  refine ⟨fun c => Results.queries (Cert.KernelIdeal.Gen.V m c Cert.KernelIdeal.main_v0) (Cert.KernelIdeal.Gen.V m c Cert.KernelIdeal.main_v1) (Cert.KernelIdeal.Gen.V m c Cert.KernelIdeal.main_arg2) (Cert.KernelIdeal.Gen.V m c Cert.KernelIdeal.main_v2) (Cert.KernelIdeal.Gen.V m c Cert.KernelIdeal.main_v3),
    fun c => Results.keys (Cert.KernelIdeal.Gen.V m c Cert.KernelIdeal.main_v0) (Cert.KernelIdeal.Gen.V m c Cert.KernelIdeal.main_v1) (Cert.KernelIdeal.Gen.V m c Cert.KernelIdeal.main_arg2) (Cert.KernelIdeal.Gen.V m c Cert.KernelIdeal.main_v2) (Cert.KernelIdeal.Gen.V m c Cert.KernelIdeal.main_v3),
    fun c => Results.values (Cert.KernelIdeal.Gen.V m c Cert.KernelIdeal.main_v0) (Cert.KernelIdeal.Gen.V m c Cert.KernelIdeal.main_v1) (Cert.KernelIdeal.Gen.V m c Cert.KernelIdeal.main_arg2) (Cert.KernelIdeal.Gen.V m c Cert.KernelIdeal.main_v2),
    fun c => Results.codes (Cert.KernelIdeal.Gen.V m c Cert.KernelIdeal.main_v0) (Cert.KernelIdeal.Gen.V m c Cert.KernelIdeal.main_v1),
    fun c => Results.scales (Cert.KernelIdeal.Gen.V m c Cert.KernelIdeal.main_v0) (Cert.KernelIdeal.Gen.V m c Cert.KernelIdeal.main_v1),
    Cert.KernelIdeal.Value.run m g, ?_⟩
  refine (θ_run _ _ _).mono (fun r h c => ?_) (Cert.ReferenceIdeal.Value.run m' g')
  obtain ⟨h0, h1, h2, h3, h4, ha⟩ := h c
  obtain ⟨a0, a1, a2, a3, a4⟩ := hagree c
  have e0 := tokens m m' c a0
  have e1 := gains m m' c a1
  have e2 := weights m m' c a2
  have e3 := wscales m m' c a3
  have e4 := positions m m' c a4
  refine ⟨h0.trans ?_, h1.trans ?_, h2.trans ?_, h3.trans ?_, h4.trans ?_, ha⟩
  · rw [e0, e1, e2, e3, e4]
  · rw [e0, e1, e2, e3, e4]
  · rw [e0, e1, e2, e3]
  · rw [e0, e1]
  · rw [e0, e1]

end Cert.Equation

end
-- ==== Proof.lean ====
/-
  The proof of `Cert.Claim`: the three programs run and leave their arguments and semaphores as they should, the kernel's program keeps
  its operations, and the kernel's five results are the reference's (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    Cert.Equation.algebraic⟩

end Cert.Proof

end
